-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S16x4096 : Shape := ⟨2, ![16, 4096]⟩
abbrev S16x2048 : Shape := ⟨2, ![16, 2048]⟩
abbrev S16 : Shape := ⟨1, ![16]⟩
abbrev S1024 : Shape := ⟨1, ![1024]⟩
abbrev S32 : Shape := ⟨1, ![32]⟩
abbrev S1056x1024 : Shape := ⟨2, ![1056, 1024]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S1024 : S_.BroadcastsInDim S1024 (![] : Fin 0 → Fin S1024.rank)
  reducesTo_S1024_S_d0 : S1024.ReducesTo [0] S_
  bcast_S_S32 : S_.BroadcastsInDim S32 (![] : Fin 0 → Fin S32.rank)
  reducesTo_S32_S_d0 : S32.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg2 : IVec S16 32) (main_arg3 : IVec S16 32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_c_6 : IVec S_ 32 := constantI S_ 32 0#32
  let main_v19 : IVec S16 32 := broadcastInDim S16 ![] bcast_S_S16 main_c_6
  let main_v20 : IVec S16 1 := cmpi .sge main_arg2 main_v19
  let main_c_7 : IVec S_ 32 := constantI S_ 32 4096#32
  let main_v21 : IVec S16 32 := broadcastInDim S16 ![] bcast_S_S16 main_c_7
  let main_v22 : IVec S16 1 := cmpi .sle main_arg2 main_v21
  let main_v23 : IVec S16 1 := andi main_v20 main_v22
  let main_c_8 : IVec S_ 1 := constantI S_ 1 1#1
  let main_v24 : IVec S_ 1 := (fun x v => Host.reduce IntOp.andi x v reducesTo_S16_S_d0 h_S_) main_v23 main_c_8
  let main_v25 : IVec S_ 1 := andi main_v18 main_v24
  let main_c_9 : IVec S_ 32 := constantI S_ 32 0#32
  let main_v26 : IVec S16 32 := broadcastInDim S16 ![] bcast_S_S16 main_c_9
  let main_v27 : IVec S16 1 := cmpi .sge main_arg3 main_v26
  let main_c_10 : IVec S_ 32 := constantI S_ 32 2048#32
  let main_v28 : IVec S16 32 := broadcastInDim S16 ![] bcast_S_S16 main_c_10
  let main_v29 : IVec S16 1 := cmpi .sle main_arg3 main_v28
  let main_v30 : IVec S16 1 := andi main_v27 main_v29
  let main_c_11 : IVec S_ 1 := constantI S_ 1 1#1
  let main_v31 : IVec S_ 1 := (fun x v => Host.reduce IntOp.andi x v reducesTo_S16_S_d0 h_S_) main_v30 main_c_11
  let main_v32 : IVec S_ 1 := andi main_v25 main_v31
  main_v32

def fn {F : FTy → Type} [FloatOps F] (main_arg0 : FVec F S16x4096 .f32) (main_arg1 : FVec F S16x2048 .f32) (main_arg2 : IVec S16 32) (main_arg3 : IVec S16 32) (main_arg4 : FVec F S1024 .f32) (main_arg5 : FVec F S1024 .f32) (main_arg6 : FVec F S32 .f32) (main_arg7 : FVec F S32 .f32) (main_arg8 : FVec F S1056x1024 .f32) (main_arg9 : FVec F S1024 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S16x2048 .f32 := Host.absf main_arg1
  let main_cst_0 : FVec F S_ .f32 := constant S_ .f32 0x7F800000#32
  let main_v5 : FVec F S16x2048 .f32 := broadcastInDim S16x2048 ![] bcast_S_S16x2048 main_cst_0
  let main_v6 : IVec S16x2048 1 := cmpf .olt main_v4 main_v5
  let main_c_1 : IVec S_ 1 := constantI S_ 1 1#1
  let main_v7 : IVec S_ 1 := (fun x v => Host.reduce IntOp.andi x v reducesTo_S16x2048_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S32 .f32 := Host.absf main_arg6
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg2 main_arg3 main_v13 main_v16
-- ==== Kernel.lean ====
abbrev S16x4096 : Shape := ⟨2, ![16, 4096]⟩
abbrev S16x2048 : Shape := ⟨2, ![16, 2048]⟩
abbrev S16 : Shape := ⟨1, ![16]⟩
abbrev S1024 : Shape := ⟨1, ![1024]⟩
abbrev S32 : Shape := ⟨1, ![32]⟩
abbrev S1056x1024 : Shape := ⟨2, ![1056, 1024]⟩
abbrev S16x1 : Shape := ⟨2, ![16, 1]⟩
abbrev S16x16 : Shape := ⟨2, ![16, 16]⟩
abbrev S32x16 : Shape := ⟨2, ![32, 16]⟩
abbrev S512 : Shape := ⟨1, ![512]⟩
abbrev S_ : Shape := ⟨0, ![]⟩
abbrev S1x512 : Shape := ⟨2, ![1, 512]⟩
abbrev S1x16 : Shape := ⟨2, ![1, 16]⟩
abbrev S16x1024 : Shape := ⟨2, ![16, 1024]⟩
abbrev S32x1 : Shape := ⟨2, ![32, 1]⟩
abbrev S1x1024 : Shape := ⟨2, ![1, 1024]⟩
abbrev S1x32 : Shape := ⟨2, ![1, 32]⟩
abbrev S16x32 : Shape := ⟨2, ![16, 32]⟩
abbrev S16x1056 : Shape := ⟨2, ![16, 1056]⟩

abbrev nBuf : Table → Nat
  | .hbm => 16
  | .local .tc .vmem => 11
  | .local .scVector .vmem => 4
  | _ => 0

abbrev bufTy : (tb : Table) → Fin (nBuf tb) → BufTy
  | .hbm, ⟨0, _⟩ => ⟨S16x4096, .f32⟩
  | .hbm, ⟨1, _⟩ => ⟨S16x2048, .f32⟩
  | .hbm, ⟨2, _⟩ => ⟨S16, .i32⟩
  | .hbm, ⟨3, _⟩ => ⟨S16, .i32⟩
  | .hbm, ⟨4, _⟩ => ⟨S1024, .f32⟩
  | .hbm, ⟨5, _⟩ => ⟨S1024, .f32⟩
  | .hbm, ⟨6, _⟩ => ⟨S32, .f32⟩
  | .hbm, ⟨7, _⟩ => ⟨S32, .f32⟩
  | .hbm, ⟨8, _⟩ => ⟨S1056x1024, .f32⟩
  | .hbm, ⟨9, _⟩ => ⟨S1024, .f32⟩
  | .hbm, ⟨10, _⟩ => ⟨S16x1, .i32⟩
  | .hbm, ⟨11, _⟩ => ⟨S16x16, .i32⟩
  | .hbm, ⟨12, _⟩ => ⟨S32x16, .f32⟩
  | .hbm, ⟨13, _⟩ => ⟨S16x1, .i32⟩
  | .hbm, ⟨14, _⟩ => ⟨S16x1, .i32⟩
  | .hbm, ⟨15, _⟩ => ⟨S16x1024, .f32⟩
  | .local .tc .vmem, ⟨0, _⟩ => ⟨S32x16, .f32⟩
  | .local .tc .vmem, ⟨1, _⟩ => ⟨S16x2048, .f32⟩
  | .local .tc .vmem, ⟨2, _⟩ => ⟨S16x1, .i32⟩
  | .local .tc .vmem, ⟨3, _⟩ => ⟨S16x1, .i32⟩
  | .local .tc .vmem, ⟨4, _⟩ => ⟨S1024, .f32⟩
  | .local .tc .vmem, ⟨5, _⟩ => ⟨S1024, .f32⟩
  | .local .tc .vmem, ⟨6, _⟩ => ⟨S32, .f32⟩
  | .local .tc .vmem, ⟨7, _⟩ => ⟨S32, .f32⟩
  | .local .tc .vmem, ⟨8, _⟩ => ⟨S1056x1024, .f32⟩
  | .local .tc .vmem, ⟨9, _⟩ => ⟨S1024, .f32⟩
  | .local .tc .vmem, ⟨10, _⟩ => ⟨S16x1024, .f32⟩
  | .local .scVector .vmem, ⟨0, _⟩ => ⟨S512, .f32⟩
  | .local .scVector .vmem, ⟨1, _⟩ => ⟨S512, .f32⟩
  | .local .scVector .vmem, ⟨2, _⟩ => ⟨S16, .i32⟩
  | .local .scVector .vmem, ⟨3, _⟩ => ⟨S16, .f32⟩
  | _, _ => ⟨S16x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_arg0_scv : Ref sig .scVector := ⟨.hbm, 0, rfl⟩
abbrev main_v1_scv : Ref sig .scVector := ⟨.hbm, 11, rfl⟩
abbrev main_v2_scv : Ref sig .scVector := ⟨.hbm, 12, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c2048_i32 : BitVec 32 := 2048#32
  let v29 : BitVec 32 := Scalar.muli v28 c2048_i32
  ![v11.toNat, v29.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_30_r0 : BitVec 32 := 0#32
  ![v11.toNat, 0]
def k0_off3 (i : grid0.Coords) (c512_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c2048_i32 : BitVec 32 := 2048#32
  let v29 : BitVec 32 := Scalar.muli v28 c2048_i32
  let v38 : BitVec 32 := Scalar.addi v29 c512_i32
  ![v11.toNat, v38.toNat]
@[reducible] def k0_t1_loop : Scf.Loop 32 :=
  let c0_i32_11 : BitVec 32 := 0#32
  let c8_i32 : BitVec 32 := 8#32
  let v48 : BitVec 32 := Scalar.addi c0_i32_11 c8_i32
  let c1_i32_12 : BitVec 32 := 1#32
  ⟨c0_i32_11, v48, c1_i32_12⟩
def k0_off4 (k0_t1 : Fin k0_t1_loop.trips) (c0_i32_30 : BitVec 32) : Fin 1 → Nat :=
  let c0_i32_11 : BitVec 32 := 0#32
  let c1_i32_12 : BitVec 32 := 1#32
  let arg11 : BitVec 32 := Scf.iv c0_i32_11 c1_i32_12 k0_t1
  let c64_i32 : BitVec 32 := 64#32
  let v87 : BitVec 32 := Scalar.muli arg11 c64_i32
  let v88 : BitVec 32 := Scalar.addi v87 c0_i32_30
  let v89 : Index := Scalar.indexCast v88
  ![v89.toNat]
@[reducible] def k0_t2_loop : Scf.Loop 32 :=
  let c0_i32_15 : BitVec 32 := 0#32
  let c8_i32_16 : BitVec 32 := 8#32
  let v60 : BitVec 32 := Scalar.addi c0_i32_15 c8_i32_16
  let c1_i32_17 : BitVec 32 := 1#32
  ⟨c0_i32_15, v60, c1_i32_17⟩
def k0_off5 (k0_t2 : Fin k0_t2_loop.trips) (c0_i32_30 : BitVec 32) : Fin 1 → Nat :=
  let c0_i32_15 : BitVec 32 := 0#32
  let c1_i32_17 : BitVec 32 := 1#32
  let arg11 : BitVec 32 := Scf.iv c0_i32_15 c1_i32_17 k0_t2
  let c64_i32 : BitVec 32 := 64#32
  let v87 : BitVec 32 := Scalar.muli arg11 c64_i32
  let v88 : BitVec 32 := Scalar.addi v87 c0_i32_30
  let v89 : Index := Scalar.indexCast v88
  ![v89.toNat]
@[reducible] def k0_t3_loop : Scf.Loop 32 :=
  let c0_i32_20 : BitVec 32 := 0#32
  let c8_i32_21 : BitVec 32 := 8#32
  let v72 : BitVec 32 := Scalar.addi c0_i32_20 c8_i32_21
  let c1_i32_22 : BitVec 32 := 1#32
  ⟨c0_i32_20, v72, c1_i32_22⟩
def k0_off6 (k0_t3 : Fin k0_t3_loop.trips) (c0_i32_30 : BitVec 32) : Fin 1 → Nat :=
  let c0_i32_20 : BitVec 32 := 0#32
  let c1_i32_22 : BitVec 32 := 1#32
  let arg11 : BitVec 32 := Scf.iv c0_i32_20 c1_i32_22 k0_t3
  let c64_i32 : BitVec 32 := 64#32
  let v87 : BitVec 32 := Scalar.muli arg11 c64_i32
  let v88 : BitVec 32 := Scalar.addi v87 c0_i32_30
  let v89 : Index := Scalar.indexCast v88
  ![v89.toNat]
@[reducible] def k0_t4_loop : Scf.Loop 32 :=
  let c0_i32_25 : BitVec 32 := 0#32
  let c8_i32_26 : BitVec 32 := 8#32
  let v79 : BitVec 32 := Scalar.addi c0_i32_25 c8_i32_26
  let c1_i32_27 : BitVec 32 := 1#32
  ⟨c0_i32_25, v79, c1_i32_27⟩
def k0_off7 (k0_t4 : Fin k0_t4_loop.trips) (c0_i32_30 : BitVec 32) : Fin 1 → Nat :=
  let c0_i32_25 : BitVec 32 := 0#32
  let c1_i32_27 : BitVec 32 := 1#32
  let arg11 : BitVec 32 := Scf.iv c0_i32_25 c1_i32_27 k0_t4
  let c64_i32 : BitVec 32 := 64#32
  let v87 : BitVec 32 := Scalar.muli arg11 c64_i32
  let v88 : BitVec 32 := Scalar.addi v87 c0_i32_30
  let v89 : Index := Scalar.indexCast v88
  ![v89.toNat]
def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_30_r1 : BitVec 32 := 0#32
  ![v1.toNat, 0]
abbrev grid1 : Pipeline.Grid := .none

abbrev stage1_0 : Fin 1 → Memref sig .tc .vmem S32x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S16x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1056x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S16x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096 : Shape := ⟨2, ![16, 4096]⟩
abbrev S16x2048 : Shape := ⟨2, ![16, 2048]⟩
abbrev S16 : Shape := ⟨1, ![16]⟩
abbrev S1024 : Shape := ⟨1, ![1024]⟩
abbrev S32 : Shape := ⟨1, ![32]⟩
abbrev S1056x1024 : Shape := ⟨2, ![1056, 1024]⟩
abbrev S16x4096x1 : Shape := ⟨3, ![16, 4096, 1]⟩
abbrev S1x1x1024 : Shape := ⟨3, ![1, 1, 1024]⟩
abbrev S16x4096x1024 : Shape := ⟨3, ![16, 4096, 1024]⟩
abbrev S4096 : Shape := ⟨1, ![4096]⟩
abbrev S1x4096 : Shape := ⟨2, ![1, 4096]⟩
abbrev S16x1 : Shape := ⟨2, ![16, 1]⟩
abbrev S_ : Shape := ⟨0, ![]⟩
abbrev S16x1024 : Shape := ⟨2, ![16, 1024]⟩
abbrev S16x2048x1 : Shape := ⟨3, ![16, 2048, 1]⟩
abbrev S1x1x32 : Shape := ⟨3, ![1, 1, 32]⟩
abbrev S16x2048x32 : Shape := ⟨3, ![16, 2048, 32]⟩
abbrev S2048 : Shape := ⟨1, ![2048]⟩
abbrev S1x2048 : Shape := ⟨2, ![1, 2048]⟩
abbrev S16x32 : Shape := ⟨2, ![16, 32]⟩
abbrev S16x1056 : Shape := ⟨2, ![16, 1056]⟩
abbrev S1x1024 : Shape := ⟨2, ![1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x2048, .f32⟩
  | .hbm, ⟨2, _⟩ => ⟨S16, .i32⟩
  | .hbm, ⟨3, _⟩ => ⟨S16, .i32⟩
  | .hbm, ⟨4, _⟩ => ⟨S1024, .f32⟩
  | .hbm, ⟨5, _⟩ => ⟨S1024, .f32⟩
  | .hbm, ⟨6, _⟩ => ⟨S32, .f32⟩
  | .hbm, ⟨7, _⟩ => ⟨S32, .f32⟩
  | .hbm, ⟨8, _⟩ => ⟨S1056x1024, .f32⟩
  | .hbm, ⟨9, _⟩ => ⟨S1024, .f32⟩
  | .hbm, ⟨10, _⟩ => ⟨S16x4096x1, .f32⟩
  | .hbm, ⟨11, _⟩ => ⟨S1x1x1024, .f32⟩
  | .hbm, ⟨12, _⟩ => ⟨S16x4096x1024, .f32⟩
  | .hbm, ⟨13, _⟩ => ⟨S16x4096x1024, .f32⟩
  | .hbm, ⟨14, _⟩ => ⟨S16x4096x1024, .f32⟩
  | .hbm, ⟨15, _⟩ => ⟨S1x1x1024, .f32⟩
  | .hbm, ⟨16, _⟩ => ⟨S16x4096x1024, .f32⟩
  | .hbm, ⟨17, _⟩ => ⟨S16x4096x1024, .f32⟩
  | .hbm, ⟨18, _⟩ => ⟨S4096, .i32⟩
  | .hbm, ⟨19, _⟩ => ⟨S1x4096, .i32⟩
  | .hbm, ⟨20, _⟩ => ⟨S16x1, .i32⟩
  | .hbm, ⟨21, _⟩ => ⟨S16x4096, .i32⟩
  | .hbm, ⟨22, _⟩ => ⟨S16x4096, .i32⟩
  | .hbm, ⟨23, _⟩ => ⟨S16x4096, .i1⟩
  | .hbm, ⟨24, _⟩ => ⟨S16x4096, .f32⟩
  | .hbm, ⟨25, _⟩ => ⟨S16x4096x1, .f32⟩
  | .hbm, ⟨26, _⟩ => ⟨S16x4096x1024, .f32⟩
  | .hbm, ⟨27, _⟩ => ⟨S16x4096x1024, .f32⟩
  | .hbm, ⟨28, _⟩ => ⟨S_, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S_, .f32⟩
  | .hbm, ⟨36, _⟩ => ⟨S16x1024, .f32⟩
  | .hbm, ⟨37, _⟩ => ⟨S16x1024, .f32⟩
  | .hbm, ⟨38, _⟩ => ⟨S16x2048x1, .f32⟩
  | .hbm, ⟨39, _⟩ => ⟨S1x1x32, .f32⟩
  | .hbm, ⟨40, _⟩ => ⟨S16x2048x32, .f32⟩
  | .hbm, ⟨41, _⟩ => ⟨S16x2048x32, .f32⟩
  | .hbm, ⟨42, _⟩ => ⟨S16x2048x32, .f32⟩
  | .hbm, ⟨43, _⟩ => ⟨S1x1x32, .f32⟩
  | .hbm, ⟨44, _⟩ => ⟨S16x2048x32, .f32⟩
  | .hbm, ⟨45, _⟩ => ⟨S16x2048x32, .f32⟩
  | .hbm, ⟨46, _⟩ => ⟨S2048, .i32⟩
  | .hbm, ⟨47, _⟩ => ⟨S1x2048, .i32⟩
  | .hbm, ⟨48, _⟩ => ⟨S16x1, .i32⟩
  | .hbm, ⟨49, _⟩ => ⟨S16x2048, .i32⟩
  | .hbm, ⟨50, _⟩ => ⟨S16x2048, .i32⟩
  | .hbm, ⟨51, _⟩ => ⟨S16x2048, .i1⟩
  | .hbm, ⟨52, _⟩ => ⟨S16x2048, .f32⟩
  | .hbm, ⟨53, _⟩ => ⟨S16x2048x1, .f32⟩
  | .hbm, ⟨54, _⟩ => ⟨S16x2048x32, .f32⟩
  | .hbm, ⟨55, _⟩ => ⟨S16x2048x32, .f32⟩
  | .hbm, ⟨56, _⟩ => ⟨S_, .f32⟩
  | .hbm, ⟨57, _⟩ => ⟨S16x32, .f32⟩
  | .hbm, ⟨58, _⟩ => ⟨S16x32, .f32⟩
  | .hbm, ⟨59, _⟩ => ⟨S16x32, .f32⟩
  | .hbm, ⟨60, _⟩ => ⟨S_, .f32⟩
  | .hbm, ⟨61, _⟩ => ⟨S16x32, .f32⟩
  | .hbm, ⟨62, _⟩ => ⟨S16x32, .f32⟩
  | .hbm, ⟨63, _⟩ => ⟨S_, .f32⟩
  | .hbm, ⟨64, _⟩ => ⟨S16x32, .f32⟩
  | .hbm, ⟨65, _⟩ => ⟨S16x32, .f32⟩
  | .hbm, ⟨66, _⟩ => ⟨S16x1056, .f32⟩
  | .hbm, ⟨67, _⟩ => ⟨S16x1024, .f32⟩
  | .hbm, ⟨68, _⟩ => ⟨S1x1024, .f32⟩
  | .hbm, ⟨69, _⟩ => ⟨S16x1024, .f32⟩
  | .hbm, ⟨70, _⟩ => ⟨S16x1024, .f32⟩
  | .hbm, ⟨71, _⟩ => ⟨S_, .f32⟩
  | .hbm, ⟨72, _⟩ => ⟨S16x1024, .f32⟩
  | .hbm, ⟨73, _⟩ => ⟨S16x1024, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_3 : Ref sig .tc := ⟨.hbm, 60, rfl⟩
abbrev main_v46 : Ref sig .tc := ⟨.hbm, 61, rfl⟩
abbrev main_v47 : Ref sig .tc := ⟨.hbm, 62, rfl⟩
abbrev main_cst_4 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_call0_cst : Ref sig .tc := ⟨.hbm, 71, rfl⟩
abbrev main_call0_v0 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== Proof.Pieces.lean ====
/-
  A piece of a row of a two-axis array: a slice of one row, its unit axis dropped, read at its own index.
-/
module

public import Idealize.ShloMosaic.Lib.Pipeline.Value

@[expose] public section

noncomputable section

namespace Cert.Proof.Sc

open Idealize.ShloMosaic

/-- Reading a piece of a row at `x` is reading the array in the piece's row, `x` places past the piece's start. -/
theorem read_rowPiece {sig : RefSig} {κ : Kind} {sp : Space} {A B n : ℕ} {e : EltTy} {Val : EltTy → Type}
    (M : Memref sig κ sp ⟨2, ![A, B]⟩ e) (off : Fin 2 → ℕ) (inb : ∀ a, off a + (![1, n] : Fin 2 → ℕ) a ≤ (![A, B] : Fin 2 → ℕ) a)
    (hq : (Rect.unit (s := ⟨2, ![A, B]⟩) off ![1, n] inb).shape.Squeezes ⟨1, ![n]⟩) (f : M.view.ty.Contents Val)
    (x : (⟨1, ![n]⟩ : Shape).Idx) (i : (⟨2, ![A, B]⟩ : Shape).Idx) (h0 : (i 0).val = off 0) (h1 : (i 1).val = off 1 + (x 0).val) :
    ((M.slice (Rect.unit (s := ⟨2, ![A, B]⟩) off ![1, n] inb) (fun _ => rfl)).squeeze ⟨1, ![n]⟩ hq).view.read Val f x = M.view.read Val f i := by
  rw [Memref.read_squeeze_slice M _ (fun _ => rfl) hq hq.numel_eq]
  refine (shapeCast_dropUnit_apply (![n]) _ hq.numel_eq x).trans ?_
  show M.view.read Val f _ = M.view.read Val f i
  congr 1
  refine Shape.idx_ext₂ ?_ ?_
  · show off 0 + 1 * 0 = _
    omega
  · show off 1 + 1 * (x 0).val = _
    omega

end Cert.Proof.Sc

end
-- ==== Proof.Launch.lean ====
/-
  The program as the SparseCore launch theorem sees it, and what travels over its one launch.

  The SparseCore call runs thirty-two tasks, one on each vector subcore. The task on subcore `s` of SparseCore `c` has
  the number `2 s + c`. It reads `weight` and the broadcast lengths (both shared by all tasks, so each task holds a read
  share of either) and writes one row of the 32 x 16 array of partial sums (which it holds alone). The payloads of the
  handshakes are stated so that a core's payload is, literally, its sixteen tasks' payloads side by side.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Pipeline.Sound
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

end Cert.Proof.Sc

end
-- ==== Proof.TileValue.lean ====
/-
  What one task computes, over any float values.

  The task numbered `w = 2 s + c` works on row `w % 16` of `weight`, on its first half when `w < 16` and on its second
  half otherwise. It sums the half in four running vectors of sixteen lanes: four chunks of 512 elements, each chunk in
  eight trips of 64 elements, each trip four strips of sixteen, strip `j` added to running vector `j` with the elements
  at or past the row's length replaced by zero. At the end the four vectors are added.
-/
module

public import Idealize.ShloMosaic.Lib.Pipeline.Value
public import proofs.«01_k».proof.Proof.Launch

@[expose] public section

noncomputable section

namespace Cert.Proof.Sc

open Cert.KernelIdeal Cert.KernelIdeal.Gen
open Idealize.ShloMosaic

variable {F : FTy → Type} [FloatOps F]

/-- The four running vectors. -/
abbrev Acc (F : FTy → Type) : Type := FVec F S16 .f32 × FVec F S16 .f32 × FVec F S16 .f32 × FVec F S16 .f32

/-- An index into a chunk. -/
def chunkIx (n : ℕ) : S512.Idx := fun a => match a with | 0 => (⟨n % 512, Nat.mod_lt _ (by decide)⟩ : Fin 512)

/-- Sixteen elements of a chunk, from `o` on. -/
def strip (b : Vec F S512 .f32) (o : ℕ) : Vec F S16 .f32 := fun l => b (chunkIx (o + (l 0).val))

/-- One strip into its running vector: the lanes whose position is below the length are added, the others add zero. -/
def addStrip (len ids : IVec S16 32) (pos : BitVec 32) (acc : FVec F S16 .f32) (v : Vec F S16 .f32) : FVec F S16 .f32 :=
  addf acc (select (cmpi .slt (addi (broadcast S16 pos) ids) len) (shapeCast S16 v shapeCasts_S16_S16)
    (broadcast S16 (Scalar.ofBits .f32 0x00000000#32)))

/-- The position of lane 0 of strip `j` of trip `k` in a chunk starting at `base`, in the kernel's words. -/
def posn (base : BitVec 32) (k : ℕ) (j : BitVec 32) : BitVec 32 :=
  Scalar.addi (Scalar.addi base (Scalar.muli (Scf.iv 0#32 1#32 k) 64#32)) j

/-- Trip `k` over a chunk. -/
def trip (len ids : IVec S16 32) (base : BitVec 32) (b : Vec F S512 .f32) (k : ℕ) (a : Acc F) : Acc F :=
  (addStrip len ids (posn base k 0#32) a.1 (strip b (64 * k)),
    addStrip len ids (posn base k 16#32) a.2.1 (strip b (64 * k + 16)),
    addStrip len ids (posn base k 32#32) a.2.2.1 (strip b (64 * k + 32)),
    addStrip len ids (posn base k 48#32) a.2.2.2 (strip b (64 * k + 48)))

/-- The first `n` trips over a chunk. -/
def sweep (len ids : IVec S16 32) (base : BitVec 32) (b : Vec F S512 .f32) (a : Acc F) : ℕ → Acc F
  | 0 => a
  | n + 1 => trip len ids base b n (sweep len ids base b a n)

/-- The first position of the half the task works on, in the kernel's words. -/
def halfBase (L : grid0.Coords) : BitVec 32 := BitVec.ofNat 32 ((2 * (L 1).val + (L 0).val) / 16 * 2048)

local notation "aV" => (Memref.whole Cert.KernelIdeal.main_arg0_scv : Memref Cert.KernelIdeal.sig Kind.scVector Space.hbm Cert.KernelIdeal.S16x4096 EltTy.f32)
local notation "bV" => (Memref.whole Cert.KernelIdeal.main_v1_scv : Memref Cert.KernelIdeal.sig Kind.scVector Space.hbm Cert.KernelIdeal.S16x16 EltTy.i32)

/-- The first chunk of the task's half row, the later chunks, and the task's row of the lengths, as the kernel addresses them. -/
abbrev aChunk0 (L : grid0.Coords) : Memref sig .scVector .hbm S512 .f32 :=
  ((aV).slice (Rect.unit (s := S16x4096) (k0_off1 L) S1x512.size (k0_off1_inb L)) (fun _ => rfl)).squeeze S512 squeezes_S1x512_S512
abbrev aChunk (L : grid0.Coords) (g : Fin 3) : Memref sig .scVector .hbm S512 .f32 :=
  ((aV).slice (Rect.unit (s := S16x4096) (k0_off3 L (BitVec.ofNat 32 (512 + 512 * g.val))) S1x512.size (k0_off3_inb L g)) (fun _ => rfl)).squeeze S512 squeezes_S1x512_S512
abbrev bRow (L : grid0.Coords) : Memref sig .scVector .hbm S16 .i32 :=
  ((bV).slice (Rect.unit (s := S16x16) (k0_off2 L) S1x16.size (k0_off2_inb L)) (fun _ => rfl)).squeeze S16 squeezes_S1x16_S16

/-- The contents of the four chunks and of the row of lengths. -/
def chunk0 (L : grid0.Coords) (fa : Vec F S16x4096 .f32) : Vec F S512 .f32 := (aChunk0 L).view.read (Elt F) fa
def chunk (L : grid0.Coords) (g : Fin 3) (fa : Vec F S16x4096 .f32) : Vec F S512 .f32 := (aChunk L g).view.read (Elt F) fa
def lens (F : FTy → Type) (L : grid0.Coords) (fb : IVec S16x16 32) : IVec S16 32 := (bRow L).view.read (Elt F) fb

/-- The lanes' numbers. -/
def laneIds : IVec S16 32 := iota .scVector S16 32 [0] iota_S16_d0_w32_scVector

/-- The running vectors at the start and after each chunk. -/
def acc0 : Acc F := (k0_pay25, k0_pay25, k0_pay25, k0_pay25)
def acc1 (L : grid0.Coords) (fa : Vec F S16x4096 .f32) (len : IVec S16 32) : Acc F :=
  sweep len laneIds (Scalar.addi (halfBase L) 0#32) (chunk0 L fa) acc0 8
def acc2 (L : grid0.Coords) (fa : Vec F S16x4096 .f32) (len : IVec S16 32) : Acc F :=
  sweep len laneIds (Scalar.addi (halfBase L) 512#32) (chunk L 0 fa) (acc1 L fa len) 8
def acc3 (L : grid0.Coords) (fa : Vec F S16x4096 .f32) (len : IVec S16 32) : Acc F :=
  sweep len laneIds (Scalar.addi (halfBase L) 1024#32) (chunk L 1 fa) (acc2 L fa len) 8
def acc4 (L : grid0.Coords) (fa : Vec F S16x4096 .f32) (len : IVec S16 32) : Acc F :=
  sweep len laneIds (Scalar.addi (halfBase L) 1536#32) (chunk L 2 fa) (acc3 L fa len) 8

/-- The task's row of partial sums. -/
def taskRow (L : grid0.Coords) (fa : Vec F S16x4096 .f32) (fb : IVec S16x16 32) : FVec F S16 .f32 :=
  k0_pay3 (acc4 L fa (lens F L fb)).1 (acc4 L fa (lens F L fb)).2.1 (acc4 L fa (lens F L fb)).2.2.1 (acc4 L fa (lens F L fb)).2.2.2

/-! ## The loads of a trip -/

/-- A load of sixteen elements of a chunk buffer is a strip of what the buffer holds. -/
theorem readAt_strip {κ : Kind} {sp : Space} (v : View sig κ sp S512 .f32) (f : v.ty.Contents (Elt F)) {off : Fin 1 → ℕ}
    (inb : ∀ a, off a + S16.size a ≤ S512.size a) {o : ℕ} (ho : off = ![o]) :
    v.readAt (Elt F) (Rect.unit (s := S512) off S16.size inb).toLoadRect f = strip (v.read (Elt F) f) o := by
  subst ho
  funext l
  have hl : o + (l 0).val < 512 := by have h := inb 0; have hl := (l 0).isLt; change o + 16 ≤ 512 at h; change (l 0).val < 16 at hl; omega
  show v.read (Elt F) f _ = v.read (Elt F) f _
  congr 1
  funext a
  match a with
  | 0 => exact Fin.ext (by show o + 1 * (l 0).val = (o + (l 0).val) % 512; rw [Nat.mod_eq_of_lt hl, Nat.one_mul])

/-- The four additions of a trip, over the four loads, are the trip. -/
theorem trip_of_loads {κ : Kind} {sp : Space} (v : View sig κ sp S512 .f32) (f : v.ty.Contents (Elt F)) {k : ℕ}
    {off : BitVec 32 → Fin 1 → ℕ} (hoff : ∀ r : Fin 4, off (BitVec.ofNat 32 (16 * r.val)) = ![64 * k + 16 * r.val])
    (inb : ∀ r : Fin 4, ∀ a, off (BitVec.ofNat 32 (16 * r.val)) a + S16.size a ≤ S512.size a)
    {len len' ids : IVec S16 32} (hlen : len' = len) {base base' : BitVec 32} (hbase : base' = base)
    {a a' : Acc F} (ha : a' = a) :
    ((addStrip len' ids (posn base' k 0#32) a'.1 (v.readAt (Elt F) (Rect.unit (s := S512) (off 0#32) S16.size (inb 0)).toLoadRect f),
      addStrip len' ids (posn base' k 16#32) a'.2.1 (v.readAt (Elt F) (Rect.unit (s := S512) (off 16#32) S16.size (inb 1)).toLoadRect f),
      addStrip len' ids (posn base' k 32#32) a'.2.2.1 (v.readAt (Elt F) (Rect.unit (s := S512) (off 32#32) S16.size (inb 2)).toLoadRect f),
      addStrip len' ids (posn base' k 48#32) a'.2.2.2 (v.readAt (Elt F) (Rect.unit (s := S512) (off 48#32) S16.size (inb 3)).toLoadRect f)) : Acc F)
      = trip len ids base (v.read (Elt F) f) k a := by
  subst hlen hbase ha
  unfold trip
  have e (r : Fin 4) := readAt_strip v f (inb r) (hoff r)
  exact congr (congrArg Prod.mk (congrArg _ (e 0))) (congr (congrArg Prod.mk (congrArg _ (e 1)))
    (congr (congrArg Prod.mk (congrArg _ (e 2))) (congrArg _ (e 3))))

/-- The row of lengths as the kernel reads it back out of its scratch. -/
theorem lens_of_read (L : grid0.Coords) (fb : IVec S16x16 32) (g : (Memref.whole cc0_scratch2 : Memref sig .scVector .vmem S16 .i32).view.ty.Contents (Elt F)) :
    k0_pay24 (F := F) ((Memref.whole cc0_scratch2 : Memref sig .scVector .vmem S16 .i32).view.readAt (Elt F) (Rect.unit (s := S16) ![0] S16.size inb_S16_S16_0).toLoadRect
        ((Memref.whole cc0_scratch2 : Memref sig .scVector .vmem S16 .i32).view.write (Elt F) g (lens F L fb) Finset.univ))
      = lens F L fb := by
  rw [show (Memref.whole cc0_scratch2 : Memref sig .scVector .vmem S16 .i32).view.write (Elt F) g (lens F L fb) Finset.univ = lens F L fb
    from View.write_whole_univ _ _ _]
  exact (shapeCast_self _ _).trans
    (Memref.readAt_unit_zero (Elt F) cc0_scratch2 (by funext a; match a with | 0 => rfl) inb_S16_S16_0 _)

end Cert.Proof.Sc

end
-- ==== Proof.Tile.lean ====
/-
  One task's run on its vector subcore, with the value it leaves.

  The task starts the copies of its first chunk and of its row of lengths, reads the lengths, and then alternates: the
  next chunk is on its way into one buffer while the chunk in the other is summed. The running vectors are carried by
  the loops' invariants from the start, so that the row the task writes at its end is `taskRow`.
-/
module

public import proofs.«01_k».proof.Proof.TileValue

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The locations of `weight`, of the broadcast lengths and of the partial sums. -/
abbrev aLoc (d : Dev nD) : Loc nD τ sig := (SparseCore.T d).loc main_arg0
abbrev bLoc (d : Dev nD) : Loc nD τ sig := (SparseCore.T d).loc main_v1
abbrev oLoc (d : Dev nD) : Loc nD τ sig := (SparseCore.T d).loc main_v2

local notation "aV" => (Memref.whole Cert.KernelIdeal.main_arg0_scv : Memref Cert.KernelIdeal.sig Kind.scVector Space.hbm Cert.KernelIdeal.S16x4096 EltTy.f32)
local notation "bV" => (Memref.whole Cert.KernelIdeal.main_v1_scv : Memref Cert.KernelIdeal.sig Kind.scVector Space.hbm Cert.KernelIdeal.S16x16 EltTy.i32)
local notation "oV" => (Memref.whole Cert.KernelIdeal.main_v2_scv : Memref Cert.KernelIdeal.sig Kind.scVector Space.hbm Cert.KernelIdeal.S32x16 EltTy.f32)
local notation "s0V" => (Memref.whole Cert.KernelIdeal.cc0_scratch0 : Memref Cert.KernelIdeal.sig Kind.scVector Space.vmem Cert.KernelIdeal.S512 EltTy.f32)
local notation "s1V" => (Memref.whole Cert.KernelIdeal.cc0_scratch1 : Memref Cert.KernelIdeal.sig Kind.scVector Space.vmem Cert.KernelIdeal.S512 EltTy.f32)
local notation "lV" => (Memref.whole Cert.KernelIdeal.cc0_scratch2 : Memref Cert.KernelIdeal.sig Kind.scVector Space.vmem Cert.KernelIdeal.S16 EltTy.i32)
local notation "rV" => (Memref.whole Cert.KernelIdeal.cc0_scratch3 : Memref Cert.KernelIdeal.sig Kind.scVector Space.vmem Cert.KernelIdeal.S16 EltTy.f32)

variable (d : Dev nD) (L : grid0.Coords)
/-- The core and the subcore of a task. -/
abbrev cV (L : grid0.Coords) : Fin τ.nSC := (L 0).castLE hcore0
abbrev jV (L : grid0.Coords) : Fin τ.nSub := (L 1).castLE hsub0
/-- The task's row of the partial sums, as the kernel addresses it. -/
abbrev oRowK (L : grid0.Coords) : Memref sig .scVector .hbm S16 .f32 :=
  ((oV).slice (Rect.unit (s := S32x16) (k0_off8 L) S1x16.size (k0_off8_inb L)) (fun _ => rfl)).squeeze S16 squeezes_S1x16_S16

/-- A chunk loop's invariant: the chunk's buffer, and the running vectors at the trips done. -/
def inv (B : sProp 𝕄) (f : ℕ → Acc F) : ℕ → Acc F → sProp 𝕄 := fun k a => iprop(B ∗ ⌜a = f k⌝)

/-- A read share of `weight` is two read shares, one for each transfer that may be on its way, and a rest. -/
theorem a_shares (q : PosShare TreeShare) (fa : Buf (Elt F) ((aV).view.loc (V d (cV L) (jV L)))) :
    ((aV).view.loc (V d (cV L) (jV L)) ↦{q} fa : sProp 𝕄)
      = iprop(((aV).view.loc (V d (cV L) (jV L)) ↦{Transfers.shareDrop q 2} fa)
          ∗ ((aV).view.loc (V d (cV L) (jV L)) ↦{Transfers.shareTokN q 0} fa) ∗ (aV).view.loc (V d (cV L) (jV L)) ↦{Transfers.shareTokN q 1} fa) := by
  have h := Transfers.pointsTo_toks_range (Ix := HIx 1) (Val := Elt F) (Name := ℕ) (U := UU) (Lvl := ℕ) (S := Finset.univ) (f := fa) q 2
  rw [show Finset.range 2 = {0, 1} by decide, SparseCore.bigSep_insert' (by decide), bigSep_singleton] at h
  exact BI.Entails.antisymm h.1 h.2

/-- What the row buffer holds after the one store of it. -/
theorem read_row (fr w : Vec F S16 .f32) :
    (rV).view.read (Elt F) ((rV).view.writes (Elt F) fr [⟨Rect.unit (s := S16) ![0] S16.size inb_S16_S16_0, w⟩]) = w := by
  rw [View.writes_singleton]
  exact (View.read_whole _ _).trans (Memref.write_access_unit_zero_univ (Elt F) cc0_scratch3 (by funext a; match a with | 0 => rfl) inb_S16_S16_0 fr w)

set_option maxHeartbeats 4000000 in
/-- The task on subcore `L 1` of core `L 0`: from a read share of `weight` and of the lengths and its own row of the
    partial sums, it gives the shares back and leaves `taskRow` in the row; every wait it makes is on a transfer of its own. -/
theorem tile_run (O : CellTallies nD τ sig (HIx 1)) (W : Waits sig (HIx 1)) (hO : ∀ g, O g none = 0) (q : PosShare TreeShare) (fa fb fo f0 f1 fl fr) :
    iprop(levAts (K (F := F)).L (K (F := F)).lev
        ∗ ((aV).view.loc (V d (cV L) (jV L)) ↦{q} fa) ∗ ((bV).view.loc (V d (cV L) (jV L)) ↦{q} fb) ∗ ((oRowK L).view.loc (V d (cV L) (jV L)) ↦[(oRowK L).view.set]{fullShare} fo)
        ∗ ((s0V).view.loc (V d (cV L) (jV L)) ↦{fullShare} f0) ∗ ((s1V).view.loc (V d (cV L) (jV L)) ↦{fullShare} f1) ∗ ((lV).view.loc (V d (cV L) (jV L)) ↦{fullShare} fl)
        ∗ ((rV).view.loc (V d (cV L) (jV L)) ↦{fullShare} fr)
        ∗ semVal ((V d (cV L) (jV L)), .dma cc0_scratch4.sem) 0 ∗ semVal ((V d (cV L) (jV L)), .dma cc0_scratch5.sem) 0 ∗ semVal ((V d (cV L) (jV L)), .dma cc0_scoped0.sem) 0
        ∗ semVal ((V d (cV L) (jV L)), .dma cc0_scoped1.sem) 0 ∗ owes (V d (cV L) (jV L)) O W : sProp 𝕄)
      ⊢ wp frame (wpE (defs₀ (F := F)) 𝒱₀ (V d (cV L) (jV L)) none) Set.univ
          (cc0__sc_weight_sums_body L aV (Memref.isWhole_whole _) bV (Memref.isWhole_whole _) oV (Memref.isWhole_whole _)
            s0V (Memref.isWhole_whole _) s1V (Memref.isWhole_whole _) lV (Memref.isWhole_whole _) rV (Memref.isWhole_whole _) cc0_scratch4 cc0_scratch5 cc0_scoped0 cc0_scoped1)
          fun _ => iprop(((aV).view.loc (V d (cV L) (jV L)) ↦{q} fa) ∗ ((bV).view.loc (V d (cV L) (jV L)) ↦{q} fb)
            ∗ (∃ g, ⌜(oRowK L).view.read (Elt F) g = taskRow L fa fb⌝ ∗ (oRowK L).view.loc (V d (cV L) (jV L)) ↦[(oRowK L).view.set]{fullShare} g)
            ∗ (∃ f, (s0V).view.loc (V d (cV L) (jV L)) ↦{fullShare} f) ∗ (∃ f, (s1V).view.loc (V d (cV L) (jV L)) ↦{fullShare} f)
            ∗ (∃ f, (lV).view.loc (V d (cV L) (jV L)) ↦{fullShare} f) ∗ (∃ f, (rV).view.loc (V d (cV L) (jV L)) ↦{fullShare} f)
            ∗ semVal ((V d (cV L) (jV L)), .dma cc0_scratch4.sem) 0 ∗ semVal ((V d (cV L) (jV L)), .dma cc0_scratch5.sem) 0 ∗ semVal ((V d (cV L) (jV L)), .dma cc0_scoped0.sem) 0
            ∗ semVal ((V d (cV L) (jV L)), .dma cc0_scoped1.sem) 0
            ∗ ∃ W', ⌜∀ p ∈ W', p ∈ W ∨ p.2 = none⌝ ∗ owes (V d (cV L) (jV L)) O W') := by
  rw [cc0__sc_weight_sums_body_eq_skeleton]; unfold cc0__sc_weight_sums_body_skel
  rw [k0_part5_eq_skeleton]; unfold k0_part5_skel
  rw [k0_part6_eq_skeleton]; unfold k0_part6_skel
  iintro ⟨#Hlv, Ha, Hb, Ho, H0, H1, Hl, Hr, Hs0, Hs1, Hs2, Hs3, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hat := (Entails.of_eq (a_shares d L q fa)) $$ Ha
  icases Hat with ⟨Had, Ha0, Ha1⟩
  sl_exec
  have hv : ∀ L : grid0.Coords, tile_run.sl.v29 L = halfBase L := by decide +kernel
  have hl := lens_of_read L fb fl
  rw [show View.write (Elt F) (s0V).view f0 (tile_run.sl.dma0 d L fa) Finset.univ = chunk0 L fa from View.write_whole_univ _ _ _]
  rw [wp_bind]
  sl_for (inv (F := F) ((s0V).view.loc (V d (cV L) (jV L)) ↦{fullShare} chunk0 L fa) (sweep (lens F L fb) laneIds (Scalar.addi (halfBase L) 0#32) (chunk0 L fa) (acc0))) $$ [H0]
  case region =>
    intro k a; unfold inv; iintro ⟨H0, %ha⟩
    sl_exec
    sl_step
    isplitl [H0]
    · iexact H0
    · ipureintro
      exact trip_of_loads (s0V).view (chunk0 L fa) (k0_off4_eq k) (k0_off4_inb k) hl (congrArg (Scalar.addi · 0#32) (hv L)) ha
  · unfold inv
    isplitl [H0]
    · iexact H0
    · ipureintro; exact rfl
  iintro %a1 HI
  unfold inv
  icases HI with ⟨H0, %ha1⟩
  replace ha1 : a1 = acc1 L fa (lens F L fb) := ha1
  sl_exec
  rw [show View.write (Elt F) (s1V).view f1 (tile_run.sl.dma1 d L fa) Finset.univ = chunk L 0 fa from View.write_whole_univ _ _ _]
  sl_for (inv (F := F) ((s1V).view.loc (V d (cV L) (jV L)) ↦{fullShare} chunk L 0 fa) (sweep (lens F L fb) laneIds (Scalar.addi (halfBase L) 512#32) (chunk L 0 fa) (acc1 L fa (lens F L fb)))) $$ [H1]
  case region =>
    intro k a; unfold inv; iintro ⟨H1, %ha⟩
    sl_exec
    sl_step
    isplitl [H1]
    · iexact H1
    · ipureintro
      exact trip_of_loads (s1V).view (chunk L 0 fa) (k0_off5_eq k) (k0_off5_inb k) hl (congrArg (Scalar.addi · 512#32) (hv L)) ha
  · unfold inv
    isplitl [H1]
    · iexact H1
    · ipureintro; exact ha1
  iintro %a2 HI
  unfold inv
  icases HI with ⟨H1, %ha2⟩
  replace ha2 : a2 = acc2 L fa (lens F L fb) := ha2
  sl_exec
  rw [show View.write (Elt F) (s0V).view (chunk0 L fa) (tile_run.sl.dma0_2 d L fa) Finset.univ = chunk L 1 fa from View.write_whole_univ _ _ _]
  sl_for (inv (F := F) ((s0V).view.loc (V d (cV L) (jV L)) ↦{fullShare} chunk L 1 fa) (sweep (lens F L fb) laneIds (Scalar.addi (halfBase L) 1024#32) (chunk L 1 fa) (acc2 L fa (lens F L fb)))) $$ [H0]
  case region =>
    intro k a; unfold inv; iintro ⟨H0, %ha⟩
    sl_exec
    sl_step
    isplitl [H0]
    · iexact H0
    · ipureintro
      exact trip_of_loads (s0V).view (chunk L 1 fa) (k0_off6_eq k) (k0_off6_inb k) hl (congrArg (Scalar.addi · 1024#32) (hv L)) ha
  · unfold inv
    isplitl [H0]
    · iexact H0
    · ipureintro; exact ha2
  iintro %a3 HI
  unfold inv
  icases HI with ⟨H0, %ha3⟩
  replace ha3 : a3 = acc3 L fa (lens F L fb) := ha3
  sl_exec
  rw [show View.write (Elt F) (s1V).view (chunk L 0 fa) (tile_run.sl.dma0_3 d L fa) Finset.univ = chunk L 2 fa from View.write_whole_univ _ _ _]
  sl_for (inv (F := F) ((s1V).view.loc (V d (cV L) (jV L)) ↦{fullShare} chunk L 2 fa) (sweep (lens F L fb) laneIds (Scalar.addi (halfBase L) 1536#32) (chunk L 2 fa) (acc3 L fa (lens F L fb)))) $$ [H1]
  case region =>
    intro k a; unfold inv; iintro ⟨H1, %ha⟩
    sl_exec
    sl_step
    isplitl [H1]
    · iexact H1
    · ipureintro
      exact trip_of_loads (s1V).view (chunk L 2 fa) (k0_off7_eq k) (k0_off7_inb k) hl (congrArg (Scalar.addi · 1536#32) (hv L)) ha
  · unfold inv
    isplitl [H1]
    · iexact H1
    · ipureintro; exact ha3
  iintro %a4 HI
  unfold inv
  icases HI with ⟨H1, %ha4⟩
  replace ha4 : a4 = acc4 L fa (lens F L fb) := ha4
  sl_exec
  sl_step
  isplitl [Had Ha0 Ha1]
  · iapply (Entails.of_eq (a_shares d L q fa).symm)
    isplitl [Had]; · iexact Had
    isplitl [Ha0]; · iexact Ha0
    iexact Ha1
  isplitl [Hb]; · iexact Hb
  isplitl [Ho]
  · iexists _; isplitr
    swap; · iexact Ho
    ipureintro
    subst ha4
    exact (View.read_writes_whole _ _ _).trans (read_row fr _)
  isplitl [H0]; · iexists _; iexact H0
  isplitl [H1]; · iexists _; iexact H1
  isplitl [Hl]; · iexists _; iexact Hl
  isplitl [Hr]; · iexists _; iexact Hr
  isplitl [Hs0]; · iexact Hs0
  isplitl [Hs1]; · iexact Hs1
  isplitl [Hs2]; · iexact Hs2
  isplitl [Hs3]; · iexact Hs3
  iexists _; isplitr
  swap; · iexact HO
  ipureintro
  intro p hp
  simp only [Finset.mem_insert] at hp
  rcases hp with hp | hp | hp | hp | hp | hp | hp
  all_goals first | exact .inl hp | exact .inr (hp ▸ rfl)

end Cert.Proof.Sc

end
-- ==== Proof.Task.lean ====
/-
  The tasks as the launch starts them: what travels to each task and back, and that each task meets it.

  The lengths the tasks read are `lensArr`, what @main's two broadcasts leave. Task `w` gets one of thirty-two read shares of
  `weight` and of the lengths, and row `w` of the partial sums; it hands back the shares and the row, now row `w` of
  `partials`.
-/
module

public import proofs.«01_k».proof.Proof.Pieces
public import proofs.«01_k».proof.Proof.Tile

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "aV" => (Memref.whole Cert.KernelIdeal.main_arg0_scv : Memref Cert.KernelIdeal.sig Kind.scVector Space.hbm Cert.KernelIdeal.S16x4096 EltTy.f32)
local notation "bV" => (Memref.whole Cert.KernelIdeal.main_v1_scv : Memref Cert.KernelIdeal.sig Kind.scVector Space.hbm Cert.KernelIdeal.S16x16 EltTy.i32)
local notation "oV" => (Memref.whole Cert.KernelIdeal.main_v2_scv : Memref Cert.KernelIdeal.sig Kind.scVector Space.hbm Cert.KernelIdeal.S32x16 EltTy.f32)
local notation "s0V" => (Memref.whole Cert.KernelIdeal.cc0_scratch0 : Memref Cert.KernelIdeal.sig Kind.scVector Space.vmem Cert.KernelIdeal.S512 EltTy.f32)
local notation "s1V" => (Memref.whole Cert.KernelIdeal.cc0_scratch1 : Memref Cert.KernelIdeal.sig Kind.scVector Space.vmem Cert.KernelIdeal.S512 EltTy.f32)
local notation "lV" => (Memref.whole Cert.KernelIdeal.cc0_scratch2 : Memref Cert.KernelIdeal.sig Kind.scVector Space.vmem Cert.KernelIdeal.S16 EltTy.i32)
local notation "rV" => (Memref.whole Cert.KernelIdeal.cc0_scratch3 : Memref Cert.KernelIdeal.sig Kind.scVector Space.vmem Cert.KernelIdeal.S16 EltTy.f32)

variable (m : (ℓ : Loc nD τ sig) → Buf (Elt F) ℓ)

/-! ## The tasks' numbers and the arrays -/

/-- The coordinates of the task on subcore `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- The number of a task, and the coordinates of the task with a number. -/
def wid (L : grid0.Coords) : Fin 32 :=
  ⟨2 * (L 1).val + (L 0).val, by have h0 : (L 0).val < 2 := (L 0).isLt; have h1 : (L 1).val < 16 := (L 1).isLt; omega⟩
def coordsOf (w : Fin 32) : grid0.Coords := coordsV (⟨w.val % 2, Nat.mod_lt _ (by decide)⟩ : Fin 2) (⟨w.val / 2, by omega⟩ : Fin 16)
theorem coordsOf_wid : ∀ L : grid0.Coords, coordsOf (wid L) = L := by
  intro L
  have h0 : (L 0).val < 2 := (L 0).isLt
  funext a
  match a with
  | 0 => exact Fin.ext (by show (2 * (L 1).val + (L 0).val) % 2 = (L 0).val; omega)
  | 1 => exact Fin.ext (by show (2 * (L 1).val + (L 0).val) / 2 = (L 1).val; omega)

/-- The launch contents, and the contents after the two broadcasts of the lengths. -/
def V0 (d : Dev nD) : Valuation τ sig (Elt F) := fun b => m (d, b)
abbrev op0 : HloOp τ sig (Elt F) := StableHlo.unary main_arg2 main_v0 (broadcastInDim S16x1 ![0] bcast_S16_S16x1_0 : (⟨S16, .i32⟩ : BufTy).Contents (Elt F) → (⟨S16x1, .i32⟩ : BufTy).Contents (Elt F))
abbrev op1 : HloOp τ sig (Elt F) := StableHlo.unary main_v0 main_v1 (broadcastInDim S16x16 ![0, 1] bcast_S16x1_S16x16_0_1 : (⟨S16x1, .i32⟩ : BufTy).Contents (Elt F) → (⟨S16x16, .i32⟩ : BufTy).Contents (Elt F))
def V2 (d : Dev nD) : Valuation τ sig (Elt F) := (op1 (F := F)).result ((op0 (F := F)).result (V0 m d))

/-- The lengths as the tasks read them. -/
def lensArr (d : Dev nD) : Buf (Elt F) (bLoc d) := V2 m d (Proc.devRef .tc (main_v1 : Ref sig .tc))

/-- The partial sums: row `w` is task `w`'s. -/
def partials (d : Dev nD) : Vec F S32x16 .f32 := fun x => taskRow (coordsOf (x 0)) (m (aLoc d)) (lensArr m d) (fun | 0 => x 1)

theorem odiv : 32 ∣ S32x16.size 0 := by decide
/-- Row `w` of the partial sums. -/
abbrev orow (w : Fin 32) : Rect S32x16 := Rect.part (a₀ := 0) odiv w
abbrev oRowSet (w : Fin 32) : Finset S32x16.Idx := ((oV).view.slice (orow w)).set

theorem orow_eq (L : grid0.Coords) : Rect.unit (s := S32x16) (k0_off8 L) S1x16.size (k0_off8_inb L) = orow (wid L) := by
  unfold orow Rect.part Rect.block
  congr 1 <;> funext a
  · rw [k0_off8_eq]
    match a with
    | 0 => simp [Shape.partIx, Shape.partSize, wid]
    | 1 => simp [Shape.partIx, Shape.partSize]
  · match a with
    | 0 => simp [Shape.partSize]
    | 1 => simp [Shape.partSize]
theorem set_oRowK (L : grid0.Coords) : (oRowK L).view.set = oRowSet (wid L) := by
  show (((oV).view.slice (Rect.unit (s := S32x16) (k0_off8 L) S1x16.size (k0_off8_inb L))).reshape S16 squeezes_S1x16_S16.numel_eq).set = ((oV).view.slice (orow (wid L))).set
  rw [View.set_reshape]
  exact orow_eq L ▸ rfl
theorem oRowSet_eq (w : Fin 32) : oRowSet w = (orow w).set := by
  show ((View.whole (main_v2_scv : Ref sig .scVector)).slice (orow w)).set = _
  rw [View.set_slice]; exact Finset.map_refl
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
theorem orows_cover : (Finset.univ : Finset (Fin 32)).biUnion oRowSet = Finset.univ :=
  (Finset.biUnion_congr rfl fun i _ => oRowSet_eq i).trans (Rect.biUnion_part odiv)
/-- The partial sums whole are their rows. -/
theorem o_rows (d : Dev nD) (f : Buf (Elt F) (oLoc d)) :
    (oLoc d ↦{fullShare} f : sProp 𝕄) = bigSep Finset.univ fun w : Fin 32 => oLoc d ↦[oRowSet w]{fullShare} f := by
  rw [← pointsTo_biUnion Finset.univ (ℓ := oLoc d) oRowSet orows_disjoint, orows_cover]; try rfl

/-- A task's row of `partials`, read as the task addresses it. -/
theorem read_partials (d : Dev nD) (L : grid0.Coords) : (oRowK L).view.read (Elt F) (partials m d) = taskRow L (m (aLoc d)) (lensArr m d) := by
  funext x
  refine (read_rowPiece (oV) (k0_off8 L) (k0_off8_inb L) squeezes_S1x16_S16 (partials m d) x
    (fun | 0 => wid L | 1 => x 0 : S32x16.Idx) (by rw [k0_off8_eq]; rfl) (by rw [k0_off8_eq]; exact (Nat.zero_add _).symm)).trans ?_
  show taskRow (coordsOf (wid L)) _ _ _ = _
  rw [coordsOf_wid]
  congr 1
  funext a
  match a with
  | 0 => rfl

/-- Contents that read as the task's row are `partials` on the row. -/
theorem row_partials (d : Dev nD) (L : grid0.Coords) (g : Buf (Elt F) (oLoc d))
    (hg : (oRowK L).view.read (Elt F) g = taskRow L (m (aLoc d)) (lensArr m d)) :
    ((oRowK L).view.loc (V d (cV L) (jV L)) ↦[(oRowK L).view.set]{fullShare} g : sProp 𝕄) = oLoc d ↦[oRowSet (wid L)]{fullShare} partials m d := by
  rw [← set_oRowK]
  refine pointsTo_congr fun i hi => ?_
  obtain ⟨y, rfl⟩ := View.exists_emb_of_mem_set _ hi
  have h := congrFun (hg.trans (read_partials m d L).symm) y
  rw [View.read_apply, View.read_apply] at h
  exact cast_inj _ |>.mp h

/-! ## What the handshakes carry -/

/-- What task `w` takes and what it hands back. -/
def takes (d : Dev nD) (w : Fin 32) : sProp 𝕄 :=
  iprop((aLoc d ↦{Transfers.shareTok fullShare 32 w} m (aLoc d)) ∗ (bLoc d ↦{Transfers.shareTok fullShare 32 w} lensArr m d)
    ∗ oLoc d ↦[oRowSet w]{fullShare} m (oLoc d))
def yields (d : Dev nD) (w : Fin 32) : sProp 𝕄 :=
  iprop((aLoc d ↦{Transfers.shareTok fullShare 32 w} m (aLoc d)) ∗ (bLoc d ↦{Transfers.shareTok fullShare 32 w} lensArr m d)
    ∗ oLoc d ↦[oRowSet w]{fullShare} partials m d)

/-- The number of the task on subcore `i` of core `c` of the call. -/
def wOf (c : Fin ((K (F := F)).nCore 0)) (i : Fin ((K (F := F)).nSub 0)) : Fin 32 :=
  ⟨2 * i.val + c.val, by have h0 : c.val < 2 := c.isLt; have h1 : i.val < 16 := i.isLt; omega⟩

def P : (K (F := F)).Pay (nD := nD) (Val := Elt F) (Name := ℕ) (U := UU) where
  st := fun q d c => match q with | 0 => bigSep Finset.univ fun i => takes m d (wOf c i)
  dn := fun q d c => match q with | 0 => bigSep Finset.univ fun i => yields m d (wOf c i)
  go := fun q d c i => match q with | 0 => takes m d (wOf c i)
  td := fun q d c i => match q with | 0 => yields m d (wOf c i)
  x := fun _ _ => iprop(emp)

instance takes_storable (d : Dev nD) (w : Fin 32) : BI.Storable (upEmb : UEmb _ 𝕄) (takes m d w) := by unfold takes; infer_instance
instance yields_storable (d : Dev nD) (w : Fin 32) : BI.Storable (upEmb : UEmb _ 𝕄) (yields m d w) := by unfold yields; infer_instance

instance P_storable : (P (F := F) m).IsStorable where
  st q d c := match q with
    | 0 => (inferInstance : BI.Storable (upEmb : UEmb _ 𝕄) (bigSep Finset.univ fun i => takes m d (wOf c i)))
  dn q d c := match q with
    | 0 => (inferInstance : BI.Storable (upEmb : UEmb _ 𝕄) (bigSep Finset.univ fun i => yields m d (wOf c i)))
  go q d c i := match q with | 0 => takes_storable m d (wOf c i)
  td q d c i := match q with | 0 => yields_storable m d (wOf c i)

theorem vecSplit : (K (F := F)).VecSplit' (P m) 0 := by
  intro d c
  show (bigSep Finset.univ fun i => takes m d (wOf c i) : sProp 𝕄) ⊢ |={Set.univ}=> iprop(
    (bigSep Finset.univ fun i => takes m d (wOf c i)) ∗ ((bigSep Finset.univ fun i => yields m d (wOf c i)) -∗ bigSep Finset.univ fun i => yields m d (wOf c i)))
  iintro H; imodintro
  isplitl [H]; · iexact H
  iintro H; iexact H

/-! ## The task's own storage -/

section Storage
variable (d : Dev nD) (L : grid0.Coords)

abbrev cell (s : DmaSems sig S_) : GSem nD τ sig := (V d (cV L) (jV L), .dma s.sem)
theorem cell_mem {s : DmaSems sig S_} (h : (SemLoc.dma s.sem : SemLoc sig).isScoped .scVector = true) : cell d L s ∈ ownCells (V d (cV L) (jV L)) :=
  (mem_ownCells (g := cell d L s)).mpr ⟨rfl, h⟩
theorem cell_ne {s t : DmaSems sig S_} (h : (s.sem).val ≠ (t.sem).val) : cell d L s ≠ cell d L t :=
  fun e => h (congrArg Fin.val (SemLoc.dma.inj (Prod.mk.inj e).2))

/-- The four cells the task uses are among its own, -/
theorem ownSems0_V :
    (ownSems0 (V d (cV L) (jV L)) : sProp 𝕄)
      = iprop(semVal (cell d L cc0_scratch4) 0 ∗ semVal (cell d L cc0_scratch5) 0 ∗ semVal (cell d L cc0_scoped0) 0 ∗ semVal (cell d L cc0_scoped1) 0
          ∗ bigSep (((((ownCells (V d (cV L) (jV L))).erase (cell d L cc0_scratch4)).erase (cell d L cc0_scratch5)).erase (cell d L cc0_scoped0)).erase (cell d L cc0_scoped1))
              fun g => semVal g 0) := by
  unfold SparseCore.Cfg.ownSems0
  rw [SparseCore.bigSep_erase' (cell_mem d L (s := cc0_scratch4) (by decide)),
    SparseCore.bigSep_erase' (Finset.mem_erase.mpr ⟨cell_ne d L (by decide), cell_mem d L (s := cc0_scratch5) (by decide)⟩),
    SparseCore.bigSep_erase' (Finset.mem_erase.mpr ⟨cell_ne d L (by decide), Finset.mem_erase.mpr ⟨cell_ne d L (by decide), cell_mem d L (s := cc0_scoped0) (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L (s := cc0_scoped1) (by decide)⟩⟩⟩)]

abbrev own (b : Ref sig .scVector) : DevRef τ sig := (Proc.scVector (cV L) (jV L)).devRef b
theorem own_ne {b b' : Ref sig .scVector} (h : b ≠ b') : own L b ≠ own L b' := fun e => h (Proc.devRef_injective _ e)

/-- and so are its four buffers, at some contents. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (own L cc0_scratch0)).erase (own L cc0_scratch1)).erase (own L cc0_scratch2)).erase (own L cc0_scratch3))
              fun b => iprop(∃ f, ((d, b) : Loc nD τ sig) ↦{fullShare} f)) := by
  have hm (b : Ref sig .scVector) (h : (own L b).owner = .proc (.scVector (cV L) (jV L))) : own L b ∈ ownRefs (τ := τ) (.scVector (cV L) (jV L)) :=
    SparseCore.Cfg.mem_ownRefs_of_owner (p := Proc.scVector (cV L) (jV L)) (b := own L b) h
  unfold SparseCore.Cfg.ownBufs
  refine (SparseCore.bigSep_erase' (hm cc0_scratch0 rfl)).trans ?_
  rw [SparseCore.bigSep_erase' (Finset.mem_erase.mpr ⟨own_ne L (by decide), hm cc0_scratch1 rfl⟩),
    SparseCore.bigSep_erase' (Finset.mem_erase.mpr ⟨own_ne L (by decide), Finset.mem_erase.mpr ⟨own_ne L (by decide), hm cc0_scratch2 rfl⟩⟩),
    SparseCore.bigSep_erase' (Finset.mem_erase.mpr ⟨own_ne L (by decide), Finset.mem_erase.mpr ⟨own_ne L (by decide),
      Finset.mem_erase.mpr ⟨own_ne L (by decide), hm cc0_scratch3 rfl⟩⟩⟩)]

/-- The task from what the launch yields it. -/
theorem tile_body (hF : (K (F := F)).Facts) (O : CellTallies nD τ sig (HIx 1)) (W : Waits sig (HIx 1)) (hO : ∀ g, O g none = 0) :
    iprop(levAts (K (F := F)).L (K (F := F)).lev ∗ emp ∗ takes m d (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_weight_sums_body L aV (Memref.isWhole_whole _) bV (Memref.isWhole_whole _) oV (Memref.isWhole_whole _)
            s0V (Memref.isWhole_whole _) s1V (Memref.isWhole_whole _) lV (Memref.isWhole_whole _) rV (Memref.isWhole_whole _) cc0_scratch4 cc0_scratch5 cc0_scoped0 cc0_scoped1)
          fun _ => iprop(yields m d (wid L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold takes yields
  iintro ⟨#Hlv, -, ⟨Ha, Hb, Ho⟩, ⟨⟨%f0, H0⟩, ⟨%f1, H1⟩, ⟨%fl, Hl⟩, ⟨%fr, Hr⟩, Hbufs⟩, ⟨Hs0, Hs1, Hs2, Hs3, Hsems⟩, HO⟩
  iapply (wp_wand_r frame (wpE (defs₀ (F := F)) 𝒱₀ (V d (cV L) (jV L)) none) Set.univ)
  isplitl [Ha Hb Ho H0 H1 Hl Hr Hs0 Hs1 Hs2 Hs3 HO]
  · iapply (tile_run d L O W hO (Transfers.shareTok fullShare 32 (wid L)) (m (aLoc d)) (lensArr m d) (m (oLoc d)) f0 f1 fl fr)
    rw [set_oRowK]
    isplitr; · iexact Hlv
    isplitl [Ha]; · iexact Ha
    isplitl [Hb]; · iexact Hb
    isplitl [Ho]; · iexact Ho
    isplitl [H0]; · iexact H0
    isplitl [H1]; · iexact H1
    isplitl [Hl]; · iexact Hl
    isplitl [Hr]; · iexact Hr
    isplitl [Hs0]; · iexact Hs0
    isplitl [Hs1]; · iexact Hs1
    isplitl [Hs2]; · iexact Hs2
    isplitl [Hs3]; · iexact Hs3
    iexact HO
  iintro %_ ⟨Ha, Hb, ⟨%g, %hg, Ho⟩, H0, H1, Hl, Hr, Hs0, Hs1, Hs2, Hs3, HO⟩
  isplitl [Ha Hb Ho]
  · isplitl [Ha]; · iexact Ha
    isplitl [Hb]; · iexact Hb
    iapply (Entails.of_eq (row_partials m d L g hg)); iexact Ho
  isplitl [H0 H1 Hl Hr Hbufs]
  · isplitl [H0]; · iexact H0
    isplitl [H1]; · iexact H1
    isplitl [Hl]; · iexact Hl
    isplitl [Hr]; · iexact Hr
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexact HO

end Storage

/-! ## The obligation -/

theorem defs₀_vector (c : Fin τ.nSC) (s : Fin τ.nSub) :
    defs₀ (F := F) (.scVector c s) 0 ()
      = SparseCore.onTile hcore0 hsub0 (fun c s => cc0__sc_weight_sums_body (coordsV c s)
          aV (Memref.isWhole_whole _) bV (Memref.isWhole_whole _) oV (Memref.isWhole_whole _)
          s0V (Memref.isWhole_whole _) s1V (Memref.isWhole_whole _) lV (Memref.isWhole_whole _) rV (Memref.isWhole_whole _)
          cc0_scratch4 cc0_scratch5 cc0_scoped0 cc0_scoped1) ⟨⟩ c s := rfl

/-- A wait on a transfer of the task's own is one the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Cert.Proof.Sc

end
-- ==== Proof.Shares.lean ====
/-
  The buffers @main holds, and what the SparseCore call takes of them.

  The TensorCore holds every buffer whole. The call needs thirty-two read shares of `weight` and of the broadcast lengths, and
  the rows of the partial sums; what is left of the two shared arrays waits, and the shares come back to make them whole.
-/
module

public import proofs.«01_k».proof.Proof.Task

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The buffers as one set -/

/-- The device's buffers that outlive the kernels. -/
def ucRefs : Finset (DevRef τ sig) := (StableHlo.tcRefs τ sig).filter fun b => ¬ b.isScoped

theorem unscopedBufs_held (d : Dev nD) (W : Valuation τ sig (Elt F)) :
    (unscopedBufs d (fun b => W (Proc.devRef .tc b)) : sProp 𝕄) = StableHlo.held (T d) ucRefs W := by
  unfold unscopedBufs StableHlo.held ucRefs StableHlo.tcRefs
  rw [Finset.filter_map, bigSep_map]; rfl

/-! ## The contents along @main -/

/-- The name on the device of one of @main's buffers. -/
abbrev at_ (b : Ref sig .tc) : DevRef τ sig := Proc.devRef .tc b
theorem at_ne {b b' : Ref sig .tc} (h : b ≠ b') : at_ b ≠ at_ b' := fun e => h (Proc.devRef_injective _ e)

theorem result_ne (op : HloOp τ sig (Elt F)) {b o : Ref sig .tc} (ho : op.writes = {at_ o}) (h : b ≠ o) (W : Valuation τ sig (Elt F)) :
    op.result W (at_ b) = W (at_ b) :=
  op.result_of_not_mem W (by rw [ho]; exact fun e => at_ne h (Finset.mem_singleton.mp e))

theorem V2_ne (d : Dev nD) {b : Ref sig .tc} (h0 : b ≠ main_v0) (h1 : b ≠ main_v1) : V2 m d (at_ b) = m (d, at_ b) :=
  (result_ne op1 (o := main_v1) rfl h1 _).trans (result_ne op0 (o := main_v0) rfl h0 _)

/-- After the SparseCore call. -/
def V3 (d : Dev nD) : Valuation τ sig (Elt F) := Function.update (V2 m d) (at_ main_v2) (partials m d)
theorem V3_ne (d : Dev nD) {b : DevRef τ sig} (h : b ≠ at_ main_v2) : V3 m d b = V2 m d b := Function.update_of_ne h _ _
theorem V3_sums (d : Dev nD) : V3 m d (at_ main_v2) = partials m d := Function.update_self ..

/-! ## The call's share of them -/

/-- The tasks by core and subcore are the thirty-two. -/
theorem bigSep_tasks (Φ : Fin 32 → sProp 𝕄) :
    (bigSep Finset.univ fun c : Fin ((K (F := F)).nCore 0) => bigSep Finset.univ fun i : Fin ((K (F := F)).nSub 0) => Φ (wOf c i)) = bigSep Finset.univ Φ := by
  let e : Fin 2 × Fin 16 ≃ Fin 32 :=
    { toFun := fun p => ⟨2 * p.2.val + p.1.val, by omega⟩
      invFun := fun w => (⟨w.val % 2, by omega⟩, ⟨w.val / 2, by omega⟩)
      left_inv := fun p => by
        refine Prod.ext (Fin.ext ?_) (Fin.ext ?_)
        · show (2 * p.2.val + p.1.val) % 2 = p.1.val; omega
        · show (2 * p.2.val + p.1.val) / 2 = p.2.val; omega
      right_inv := fun w => Fin.ext (by show 2 * (w.val / 2) + w.val % 2 = w.val; omega) }
  rw [bigSep_univ_equiv e, bigSep_univ_prod]; rfl

/-- The three buffers the call touches. -/
def callRefs : Finset (DevRef τ sig) := {at_ main_arg0, at_ main_v1, at_ main_v2}
theorem callRefs_sub : callRefs ⊆ ucRefs := by decide
theorem held_callRefs (d : Dev nD) (W : Valuation τ sig (Elt F)) :
    (StableHlo.held (T d) callRefs W : sProp 𝕄)
      = iprop((aLoc d ↦{fullShare} W (at_ main_arg0)) ∗ (bLoc d ↦{fullShare} W (at_ main_v1)) ∗ oLoc d ↦{fullShare} W (at_ main_v2)) := by
  unfold StableHlo.held callRefs
  rw [SparseCore.bigSep_insert' (by decide), SparseCore.bigSep_insert' (by decide), bigSep_singleton]

/-- Every buffer before the call is what the call takes, beside what turns its results into every buffer after it. -/
theorem call_split (d : Dev nD) :
    (StableHlo.held (T d) ucRefs (V2 m d) : sProp 𝕄) ⊢ iprop((bigSep Finset.univ fun c : Fin ((K (F := F)).nCore 0) => (P m).st 0 d c)
      ∗ ((bigSep Finset.univ fun c : Fin ((K (F := F)).nCore 0) => (P m).dn 0 d c) -∗ StableHlo.held (T d) ucRefs (V3 m d))) := by
  have hst : (bigSep Finset.univ fun c : Fin ((K (F := F)).nCore 0) => (P m).st 0 d c : sProp 𝕄) = _ := bigSep_tasks (takes m d)
  have hdn : (bigSep Finset.univ fun c : Fin ((K (F := F)).nCore 0) => (P m).dn 0 d c : sProp 𝕄) = _ := bigSep_tasks (yields m d)
  rw [hst, hdn, StableHlo.held_sub_split _ callRefs_sub (V2 m d), StableHlo.held_sub_split _ callRefs_sub (V3 m d),
    StableHlo.held_congr (T d) (S := ucRefs \ callRefs) (V := V3 m d) (V' := V2 m d)
      fun b hb => V3_ne m d fun e => (Finset.mem_sdiff.mp hb).2 (by rw [e]; decide),
    held_callRefs, held_callRefs, V3_sums, V3_ne m d (at_ne (by decide : main_arg0 ≠ main_v2)), V3_ne m d (at_ne (by decide : main_v1 ≠ main_v2)),
    V2_ne m d (b := main_arg0) (by decide) (by decide), V2_ne m d (b := main_v2) (by decide) (by decide),
    o_rows, o_rows]
  unfold takes yields
  rw [bigSep_sep', bigSep_sep', bigSep_sep', bigSep_sep']
  iintro ⟨⟨Ha, Hb, Ho⟩, Hrest⟩
  ihave Ha' := (Transfers.pointsTo_toks_split fullShare 32) $$ Ha
  ihave Hb' := (Transfers.pointsTo_toks_split fullShare 32) $$ Hb
  icases Ha' with ⟨Ha, Hat⟩
  icases Hb' with ⟨Hb, Hbt⟩
  isplitl [Hat Hbt Ho]
  · isplitl [Hat]; · iexact Hat
    isplitl [Hbt]; · iexact Hbt
    iexact Ho
  iintro ⟨Hat, Hbt, Ho⟩
  isplitr [Hrest]
  · isplitl [Ha Hat]
    · iapply (Transfers.pointsTo_toks_join fullShare 32)
      isplitl [Ha]; · iexact Ha
      iexact Hat
    isplitl [Hb Hbt]
    · iapply (Transfers.pointsTo_toks_join fullShare 32)
      isplitl [Hb]; · iexact Hb
      iexact Hbt
    iexact Ho
  iexact Hrest

end Cert.Proof.Sc

end
-- ==== Proof.Region.lean ====
/-
  The TensorCore kernel: what it computes and its run.

  It reads the partial sums, `bias`, the two columns of lengths, the two scale and offset vectors and the output weights
  and offsets, each whole, and writes the 16 x 1024 result.
-/
module

public import proofs.«01_k».proof.Proof.Launch
public import Idealize.ShloMosaic.Lib.Pipeline.Value
public import Idealize.ShloMosaic.Lib.Pipeline.RegionsLoop

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig (HIx 1) (Elt F) ℕ UU ℕ

/-! ## The body -/

/-- What the kernel computes from its ten operands. -/
def encode (s : Vec F S32x16 .f32) (b : Vec F S16x2048 .f32) (lw lb : Vec F S16x1 .i32) (ww bw : Vec F S1024 .f32) (wb bb : Vec F S32 .f32)
    (we : Vec F S1056x1024 .f32) (be : Vec F S1024 .f32) : Vec F S16x1024 .f32 :=
  k1_pay1 (k1_pay2 s lw ww bw) (k1_pay3 lb b wb bb) we be

/-- Memref `M`'s buffer on device `d`'s TensorCore, held whole at `f`. -/
abbrev pt (d : Dev nD) {sp : Space} {S : Shape} {e : EltTy} (M : Memref sig .tc sp S e) (f : Buf (Elt F) (M.view.loc (T d : Thread nD τ))) : sProp 𝕄 :=
  M.view.loc (T d : Thread nD τ) ↦{fullShare} f

theorem zero1 : (![0] : Fin 1 → ℕ) = fun _ => 0 := funext fun a => match a with | 0 => rfl
theorem zero2 : (![0, 0] : Fin 2 → ℕ) = fun _ => 0 := funext fun a => match a with | 0 => rfl | 1 => rfl

theorem encode_run (d : Dev nD) (f0 : Vec F S32x16 .f32) (f1 : Vec F S16x2048 .f32) (f2 f3 : Vec F S16x1 .i32) (f4 f5 : Vec F S1024 .f32)
    (f6 f7 : Vec F S32 .f32) (f8 : Vec F S1056x1024 .f32) (f9 : Vec F S1024 .f32) (f10 : Vec F S16x1024 .f32) (Q : PUnit → sProp 𝕄) :
    iprop(pt d (stage1_0 0) f0 ∗ pt d (stage1_1 0) f1 ∗ pt d (stage1_2 0) f2 ∗ pt d (stage1_3 0) f3 ∗ pt d (stage1_4 0) f4 ∗ pt d (stage1_5 0) f5
        ∗ pt d (stage1_6 0) f6 ∗ pt d (stage1_7 0) f7 ∗ pt d (stage1_8 0) f8 ∗ pt d (stage1_9 0) f9 ∗ pt d (stage1_10 0) f10
        ∗ (iprop(pt d (stage1_0 0) f0 ∗ pt d (stage1_1 0) f1 ∗ pt d (stage1_2 0) f2 ∗ pt d (stage1_3 0) f3 ∗ pt d (stage1_4 0) f4 ∗ pt d (stage1_5 0) f5
            ∗ pt d (stage1_6 0) f6 ∗ pt d (stage1_7 0) f7 ∗ pt d (stage1_8 0) f8 ∗ pt d (stage1_9 0) f9
            ∗ pt d (stage1_10 0) (encode f0 f1 f2 f3 f4 f5 f6 f7 f8 f9)) -∗ Q ⟨⟩))
      ⊢ wp frame (wpE (defs₀ (F := F)) 𝒱₀ (T d : Thread nD τ) none) Set.univ
          (cc1__tc_encode_kernel (stage1_0 0) (hstage1_0 0) (stage1_1 0) (hstage1_1 0) (stage1_2 0) (hstage1_2 0) (stage1_3 0) (hstage1_3 0)
            (stage1_4 0) (hstage1_4 0) (stage1_5 0) (hstage1_5 0) (stage1_6 0) (hstage1_6 0) (stage1_7 0) (hstage1_7 0) (stage1_8 0) (hstage1_8 0)
            (stage1_9 0) (hstage1_9 0) (stage1_10 0) (hstage1_10 0)) Q := by
  rw [cc1__tc_encode_kernel_eq_skeleton]
  unfold cc1__tc_encode_kernel_skel
  rw [k1_part1_eq_skeleton]
  unfold k1_part1_skel
  iintro ⟨H0, H1, H2, H3, H4, H5, H6, H7, H8, H9, H10, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  have e : (stage1_10 0).view.writes (Elt F) (stage1_10 0).view.junk (encode_run.sl.H10_1 f0 f1 f2 f3 f4 f5 f6 f7 f8 f9) = encode f0 f1 f2 f3 f4 f5 f6 f7 f8 f9 := by
    unfold encode_run.sl.H10_1
    rw [View.writes_singleton]
    refine (Memref.write_access_unit_zero_univ (Elt F) cc1_stg10_0 zero2 inb_S16x1024_S16x1024_0_0 _ _).trans ?_
    unfold encode
    exact congr (congr (congr (congrArg k1_pay1
        (congr (congr (congr (congrArg k1_pay2 (Memref.readAt_unit_zero (Elt F) cc1_stg0_0 zero2 inb_S32x16_S32x16_0_0 f0))
          (Memref.readAt_unit_zero (Elt F) cc1_stg2_0 zero2 inb_S16x1_S16x1_0_0 f2))
          (Memref.readAt_unit_zero (Elt F) cc1_stg4_0 zero1 inb_S1024_S1024_0 f4)) (Memref.readAt_unit_zero (Elt F) cc1_stg5_0 zero1 inb_S1024_S1024_0 f5)))
        (congr (congr (congr (congrArg k1_pay3 (Memref.readAt_unit_zero (Elt F) cc1_stg3_0 zero2 inb_S16x1_S16x1_0_0 f3))
          (Memref.readAt_unit_zero (Elt F) cc1_stg1_0 zero2 inb_S16x2048_S16x2048_0_0 f1))
          (Memref.readAt_unit_zero (Elt F) cc1_stg6_0 zero1 inb_S32_S32_0 f6)) (Memref.readAt_unit_zero (Elt F) cc1_stg7_0 zero1 inb_S32_S32_0 f7)))
        (Memref.readAt_unit_zero (Elt F) cc1_stg8_0 zero2 inb_S1056x1024_S1056x1024_0_0 f8)) (Memref.readAt_unit_zero (Elt F) cc1_stg9_0 zero1 inb_S1024_S1024_0 f9)
  rw [e]
  iexact H10

/-! ## The proof data, at the contents the region is entered from -/

variable (V : (c : Dev nD) → (b : Ref sig .tc) → Buf (Elt F) ((T c : Thread nD τ).loc b))

/-- The result, from the operands. -/
def encAt (c : Dev nD) : Vec F S16x1024 .f32 :=
  encode (V c main_v2) (V c main_arg1) (V c main_v3) (V c main_v4) (V c main_arg4) (V c main_arg5) (V c main_arg6) (V c main_arg7)
    (V c main_arg8) (V c main_arg9)

/-- The pairs a thread's waits may have recorded when the region is entered: those of a level up to `n`. -/
def below (F : FTy → Type) [FloatOps F] (n : ℕ) (c : Dev nD) : Set (SemLoc sig × HIx 1) := {p | (K (F := F)).lev ((T c : Thread nD τ), p.1) p.2 ≤ n}

variable (n : ℕ)

/-- The arrays at `V`; after the body the operands' buffers as fetched and the result's at the kernel's value. -/
def dat (c : Dev nD) : Dat τ (Elt F) (HIx 1) ℕ UU ℕ cfg1 c where
  A w := V c (Pipeline.arrRef spec1 w)
  after w _ := match w with
    | 0 => V c main_v2 | 1 => V c main_arg1 | 2 => V c main_v3 | 3 => V c main_v4 | 4 => V c main_arg4 | 5 => V c main_arg5
    | 6 => V c main_arg6 | 7 => V c main_arg7 | 8 => V c main_arg8 | 9 => V c main_arg9 | 10 => encAt V c
  Φ _ := Pipeline.scopedRest (Ix := HIx 1) (Name := ℕ) (U := UU) (Lvl := ℕ) (Val := Elt F) spec1 c
  q _ := fullShare
  owed _ := 0
  recorded _ := below F n c

/-- A window's one block is its whole array. -/
theorem blk_emb (w : Fin 11) (x : ((cfg1.win w).xblock (cfg1.grid.coords t1_0)).Idx) (a : Fin (cfg1.win w).shape.rank) :
    (((cfg1.win w).rect t1_0).emb x a : ℕ) = x a :=
  Window.rect_emb_val_of_index_zero (cfg1.win w) t1_0 a (by fin_cases w <;> rfl) x

theorem before_in (c : Dev nD) (w : Fin 11) (hw : (cfg1.win w).fetch t1_0 = true) (d : (cfg1.win w).block.Idx → Elt F (cfg1.win w).elt) :
    (dat V n c).before w t1_0 d = (dat V n c).fetched w t1_0 d := by
  unfold Dat.before; rw [if_pos hw]

theorem before_0 (c : Dev nD) (d : (cfg1.win 0).block.Idx → Elt F (cfg1.win 0).elt) : (dat V n c).before 0 t1_0 d = V c main_v2 :=
  (before_in V n c 0 (fetch1_0 _) d).trans (funext fun x => congrArg (V c main_v2) (funext fun a => Fin.ext (blk_emb 0 x a)))
theorem before_1 (c : Dev nD) (d : (cfg1.win 1).block.Idx → Elt F (cfg1.win 1).elt) : (dat V n c).before 1 t1_0 d = V c main_arg1 :=
  (before_in V n c 1 (fetch1_1 _) d).trans (funext fun x => congrArg (V c main_arg1) (funext fun a => Fin.ext (blk_emb 1 x a)))
theorem before_2 (c : Dev nD) (d : (cfg1.win 2).block.Idx → Elt F (cfg1.win 2).elt) : (dat V n c).before 2 t1_0 d = V c main_v3 :=
  (before_in V n c 2 (fetch1_2 _) d).trans (funext fun x => congrArg (V c main_v3) (funext fun a => Fin.ext (blk_emb 2 x a)))
theorem before_3 (c : Dev nD) (d : (cfg1.win 3).block.Idx → Elt F (cfg1.win 3).elt) : (dat V n c).before 3 t1_0 d = V c main_v4 :=
  (before_in V n c 3 (fetch1_3 _) d).trans (funext fun x => congrArg (V c main_v4) (funext fun a => Fin.ext (blk_emb 3 x a)))
theorem before_4 (c : Dev nD) (d : (cfg1.win 4).block.Idx → Elt F (cfg1.win 4).elt) : (dat V n c).before 4 t1_0 d = V c main_arg4 :=
  (before_in V n c 4 (fetch1_4 _) d).trans (funext fun x => congrArg (V c main_arg4) (funext fun a => Fin.ext (blk_emb 4 x a)))
theorem before_5 (c : Dev nD) (d : (cfg1.win 5).block.Idx → Elt F (cfg1.win 5).elt) : (dat V n c).before 5 t1_0 d = V c main_arg5 :=
  (before_in V n c 5 (fetch1_5 _) d).trans (funext fun x => congrArg (V c main_arg5) (funext fun a => Fin.ext (blk_emb 5 x a)))
theorem before_6 (c : Dev nD) (d : (cfg1.win 6).block.Idx → Elt F (cfg1.win 6).elt) : (dat V n c).before 6 t1_0 d = V c main_arg6 :=
  (before_in V n c 6 (fetch1_6 _) d).trans (funext fun x => congrArg (V c main_arg6) (funext fun a => Fin.ext (blk_emb 6 x a)))
theorem before_7 (c : Dev nD) (d : (cfg1.win 7).block.Idx → Elt F (cfg1.win 7).elt) : (dat V n c).before 7 t1_0 d = V c main_arg7 :=
  (before_in V n c 7 (fetch1_7 _) d).trans (funext fun x => congrArg (V c main_arg7) (funext fun a => Fin.ext (blk_emb 7 x a)))
theorem before_8 (c : Dev nD) (d : (cfg1.win 8).block.Idx → Elt F (cfg1.win 8).elt) : (dat V n c).before 8 t1_0 d = V c main_arg8 :=
  (before_in V n c 8 (fetch1_8 _) d).trans (funext fun x => congrArg (V c main_arg8) (funext fun a => Fin.ext (blk_emb 8 x a)))
theorem before_9 (c : Dev nD) (d : (cfg1.win 9).block.Idx → Elt F (cfg1.win 9).elt) : (dat V n c).before 9 t1_0 d = V c main_arg9 :=
  (before_in V n c 9 (fetch1_9 _) d).trans (funext fun x => congrArg (V c main_arg9) (funext fun a => Fin.ext (blk_emb 9 x a)))

/-- The result's array at the end is the kernel's value. -/
theorem arrAt_result (c : Dev nD) : (dat V n c).arrAt 10 cfg1.N = encAt V c := by
  refine (dat V n c).arrAt_eq_of_cover 10 (encAt V c) (fun t _ => ?_) (fun i => ⟨t1_0, flush1_10 _, ?_⟩)
  · obtain rfl := fin_N1 t
    exact funext fun x => congrArg (encAt V c) (funext fun a => (Fin.ext (blk_emb 10 x a)).symm)
  · rw [show i = ((cfg1.win 10).blk t1_0).view.emb i from funext fun a => (Fin.ext (blk_emb 10 i a)).symm]
    exact View.emb_mem_set _ _

theorem pointsTo_named {ℓ : Loc nD τ sig} (f : Buf (Elt F) ℓ) : (ℓ ↦{fullShare} f : sProp 𝕄) ⊢ iprop(∃ g, ⌜g = f⌝ ∗ ℓ ↦{fullShare} g) := by
  iintro H; iexists f; isplitr; · ipureintro; rfl
  iexact H

theorem body_obligation (c : Dev nD) : BodyObligation (dat V n c) (defs₀ (F := F)) 𝒱₀ none Set.univ := fun t => by
  obtain rfl := fin_N1 t
  rw [bigSep_W1, bigSep_W1]
  simp only [owns_whole_eq]
  rw [show (dat V n c).Φ t1_0.succ = (dat V n c).Φ t1_0.castSucc from rfl,
    show (dat V n c).owesAt none t1_0.succ = (dat V n c).owesAt none t1_0.castSucc from rfl]
  iintro ⟨HΦ, Howes, ⟨%d0, %f0, %h0, H0⟩, ⟨%d1, %f1, %h1, H1⟩, ⟨%d2, %f2, %h2, H2⟩, ⟨%d3, %f3, %h3, H3⟩, ⟨%d4, %f4, %h4, H4⟩,
    ⟨%d5, %f5, %h5, H5⟩, ⟨%d6, %f6, %h6, H6⟩, ⟨%d7, %f7, %h7, H7⟩, ⟨%d8, %f8, %h8, H8⟩, ⟨%d9, %f9, %h9, H9⟩, ⟨%d10, %f10, -, H10⟩⟩
  rw [before_0] at h0
  rw [before_1] at h1
  rw [before_2] at h2
  rw [before_3] at h3
  rw [before_4] at h4
  rw [before_5] at h5
  rw [before_6] at h6
  rw [before_7] at h7
  rw [before_8] at h8
  rw [before_9] at h9
  subst h0 h1 h2 h3 h4 h5 h6 h7 h8 h9
  iapply (encode_run c (V c main_v2) (V c main_arg1) (V c main_v3) (V c main_v4) (V c main_arg4) (V c main_arg5) (V c main_arg6) (V c main_arg7)
    (V c main_arg8) (V c main_arg9) f10)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Howes]; · iexact Howes
  isplitl [H0]; · iapply pointsTo_named; iexact H0
  isplitl [H1]; · iapply pointsTo_named; iexact H1
  isplitl [H2]; · iapply pointsTo_named; iexact H2
  isplitl [H3]; · iapply pointsTo_named; iexact H3
  isplitl [H4]; · iapply pointsTo_named; iexact H4
  isplitl [H5]; · iapply pointsTo_named; iexact H5
  isplitl [H6]; · iapply pointsTo_named; iexact H6
  isplitl [H7]; · iapply pointsTo_named; iexact H7
  isplitl [H8]; · iapply pointsTo_named; iexact H8
  isplitl [H9]; · iapply pointsTo_named; iexact H9
  iapply pointsTo_named; iexact H10

/-! ## The region -/

theorem in_of_ne : ∀ w : Fin 11, w ≠ 10 → (win1 w).isOut = false := by decide
theorem arrRef_ne : ∀ w : Fin 11, w ≠ 10 → Pipeline.arrRef spec1 w ≠ main_v5 := by decide

abbrev adm : (p : Fin 1) → (pcfgs (F := F) p).Adm := fun p => (cfgs p).toPCfg_adm
abbrev pdats : (p : Fin 1) → (c : Dev nD) → Dat τ (Elt F) (HIx 1) ℕ UU ℕ (Pipeline.pin (pcfgs (F := F)) adm p) c
  | ⟨0, _⟩ => fun c => dat V n c

variable (Vp : (c : Dev nD) → (b : Ref sig .tc) → Buf (Elt F) ((T c : Thread nD τ).loc b))

set_option backward.isDefEq.respectTransparency.types false in
/-- From every buffer at `V` to every buffer at `Vp`, which is `V` with the kernel's value in the result's place; the thread
    owes nothing, and what its waits have recorded stays of a level up to `n`. -/
def reg (hout : ∀ c, Vp c main_v5 = encAt V c) (hne : ∀ c (b : Ref sig .tc), b ≠ main_v5 → Vp c b = V c b) :
    Pipeline.RegionSeg (pcfgs (F := F)) adm (pdats V n) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V n c).loose
  hwaits := Pipeline.hwaits_of_owed_zero _ _ _ _ (K (F := F)).L (K (F := F)).lev 0 fun _ _ => rfl
  pre c := iprop(unscopedBufs c (V c) ∗ ∃ W, ⌜(K (F := F)).WBelow (T c) W n⌝ ∗ owes (T c : Thread nD τ) (0 : CellTallies nD τ sig (HIx 1)) W)
  post c := iprop(unscopedBufs c (Vp c) ∗ ∃ W, ⌜(K (F := F)).WBelow (T c) W n⌝ ∗ owes (T c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V n) (launch1).win (launch1).arr_whole c
      ((pdats V n 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V n 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V n 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V n) ((pdats V n 0 c).share_full fun _ => rfl) (V c) (Vp c) ((pdats V n 0 c).arrAt · cfg1.N)
      (fun w => by
        by_cases h : w = 10
        · subst h; exact (arrAt_result V n c).trans (hout c).symm
        · exact ((pdats V n 0 c).arrAt_in w (in_of_ne w h) _).trans (hne c _ (arrRef_ne w h)).symm)
      (fun b hb => hne c b fun h => hb (h ▸ Finset.mem_image.mpr ⟨10, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.Sc

end
-- ==== Proof.Main.lean ====
/-
  The whole run: @main on the TensorCore from the launch to the end, and what memory holds there.

  @main broadcasts the lengths, runs the SparseCore call, reshapes the two lists of lengths and runs the TensorCore kernel. The
  run ends with every argument as it was and the result at `encAt` of what @main left in the kernel's operands.
-/
module

public import proofs.«01_k».proof.Proof.Shares
public import proofs.«01_k».proof.Proof.Region

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The contents at the TensorCore kernel -/

abbrev op3 : HloOp τ sig (Elt F) := StableHlo.reshape main_arg2 main_v3 (rfl : (.i32 : EltTy) = .i32) shapeCasts_S16_S16x1
abbrev op4 : HloOp τ sig (Elt F) := StableHlo.reshape main_arg3 main_v4 (rfl : (.i32 : EltTy) = .i32) shapeCasts_S16_S16x1

/-- What the TensorCore kernel starts from, -/
def V5 (d : Dev nD) : Valuation τ sig (Elt F) := (op4 (F := F)).result ((op3 (F := F)).result (V3 m d))
abbrev VK (c : Dev nD) (b : Ref sig .tc) : Buf (Elt F) ((T c : Thread nD τ).loc b) := V5 m c (at_ b)
/-- and what it leaves. -/
def V6 (d : Dev nD) : Valuation τ sig (Elt F) := Function.update (V5 m d) (at_ main_v5) (encAt (VK m) d)

theorem V6_result (d : Dev nD) : V6 m d (at_ main_v5) = encAt (VK m) d := Function.update_self ..
theorem V6_ne (d : Dev nD) {b : Ref sig .tc} (h : b ≠ main_v5) : V6 m d (at_ b) = V5 m d (at_ b) := Function.update_of_ne (at_ne h) _ _
theorem V5_ne (d : Dev nD) {b : Ref sig .tc} (h3 : b ≠ main_v3) (h4 : b ≠ main_v4) : V5 m d (at_ b) = V3 m d (at_ b) :=
  (result_ne op4 (o := main_v4) rfl h4 _).trans (result_ne op3 (o := main_v3) rfl h3 _)

/-- @main's arguments. -/
def args : Finset (Ref sig .tc) :=
  {main_arg0, main_arg1, main_arg2, main_arg3, main_arg4, main_arg5, main_arg6, main_arg7, main_arg8, main_arg9}
theorem args_ne : ∀ b ∈ args, b ≠ main_v0 ∧ b ≠ main_v1 ∧ b ≠ main_v2 ∧ b ≠ main_v3 ∧ b ≠ main_v4 ∧ b ≠ main_v5 := by decide
theorem V5_arg (d : Dev nD) {b : Ref sig .tc} (hb : b ∈ args) : V5 m d (at_ b) = m (d, at_ b) := by
  obtain ⟨h0, h1, h2, h3, h4, -⟩ := args_ne b hb
  rw [V5_ne m d h3 h4, V3_ne m d (at_ne h2), V2_ne m d h0 h1]
theorem V6_arg (d : Dev nD) {b : Ref sig .tc} (hb : b ∈ args) : V6 m d (at_ b) = m (d, at_ b) :=
  (V6_ne m d (args_ne b hb).2.2.2.2.2).trans (V5_arg m d hb)

/-! ## The launch element of the certificate's ghost state -/

abbrev pinned : (p : Fin 1) → Pipeline.Cfg sig Λ₀ := Pipeline.pin (pcfgs (F := F)) adm
theorem pinned_inj : Function.Injective (Pipeline.cellOf (nD := nD) (τ := τ) (pinned (F := F))) := cellOf_inj

def u₀ : UU := (initOf (K (F := F)).hsCells (K (F := F)).hsToks,
  (initOf (Pipeline.cells (pinned (F := F)) pinned_inj) (Pipeline.launchToks (pinned (F := F)) pinned_inj), 1))

/-- What the TensorCore of a device is dealt for its kernel's staging. -/
def G (d : Dev nD) : sProp 𝕄 := iprop(Pipeline.cellsGhost (pinned (F := F)) EP 0 d ∗ Pipeline.toksInit (pinned (F := F)) EP 0 d)

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P m).x q thr) := by
  have hone (Φ : Fin 1 → Dev nD → sProp 𝕄) : (bigSep Finset.univ fun c : Dev nD => bigSep Finset.univ fun p : Fin 1 => Φ p c) = bigSep Finset.univ (Φ 0) :=
    bigSep_congr fun _ _ => bigSep_univ_of_subsingleton (0 : Fin 1)
  unfold u₀ G
  iintro Hu
  ihave H := (ownU_pair (initOf (K (F := F)).hsCells (K (F := F)).hsToks)
    ((initOf (Pipeline.cells (pinned (F := F)) pinned_inj) (Pipeline.launchToks (pinned (F := F)) pinned_inj), 1) : UP × Counters)) $$ Hu
  icases H with ⟨HH, HP⟩
  ihave HP' := (own_pair_emb embR (initOf (Pipeline.cells (pinned (F := F)) pinned_inj) (Pipeline.launchToks (pinned (F := F)) pinned_inj)) (1 : Counters)) $$ HP
  icases HP' with ⟨HP, -⟩
  ihave HP' := (show (BI.own (((Emb.inl : Emb UP (UP × Counters)).trans embR) (initOf (Pipeline.cells (pinned (F := F)) pinned_inj) (Pipeline.launchToks (pinned (F := F)) pinned_inj))) : sProp 𝕄)
    ⊢ BI.own (EP (initOf (Pipeline.cells (pinned (F := F)) pinned_inj) (Pipeline.launchToks (pinned (F := F)) pinned_inj))) from BI.Entails.refl _) $$ HP
  imod (Pipeline.fund_ghost (pinned (F := F)) EP pinned_inj) $$ HP' with ⟨Hg, Ht⟩
  imodintro
  isplitl [HH]; · iexact HH
  isplitl [Hg Ht]
  · rw [bigSep_sep', ← hone, ← hone]
    isplitl [Hg]; · iexact Hg
    iexact Ht
  rw [show (bigSep Finset.univ fun thr : Thread nD τ => bigSep Finset.univ fun q : Fin 1 => (P (F := F) m).x q thr) = bigSep Finset.univ fun _ => (BI.emp : sProp 𝕄) from
    bigSep_congr fun _ _ => bigSep_univ_of_subsingleton (0 : Fin 1), bigSep_emp_const]
  iempintro

/-! ## @main on the TensorCore -/

abbrev FIN (d : Dev nD) : sProp 𝕄 := StableHlo.held (T d) ucRefs (V6 m d)

theorem op_bufs : (op0 (F := F)).bufs ⊆ ucRefs ∧ (op1 (F := F)).bufs ⊆ ucRefs ∧ (op3 (F := F)).bufs ⊆ ucRefs ∧ (op4 (F := F)).bufs ⊆ ucRefs :=
  ⟨show ({at_ main_arg2, at_ main_v0} : Finset (DevRef τ sig)) ⊆ ucRefs by decide, show ({at_ main_v0, at_ main_v1} : Finset (DevRef τ sig)) ⊆ ucRefs by decide,
    show ({at_ main_arg2, at_ main_v3} : Finset (DevRef τ sig)) ⊆ ucRefs by decide, show ({at_ main_arg3, at_ main_v4} : Finset (DevRef τ sig)) ⊆ ucRefs by decide⟩

/-- The TensorCore kernel's region, of the contents @main reaches it with. -/
def region (n : ℕ) := reg (VK m) n (fun c b => V6 m c (at_ b)) (fun c => V6_result m c) (fun c _ hb => V6_ne m c hb)

theorem region_pre (d : Dev nD) (n : ℕ) : (region m n).pre d = iprop(unscopedBufs d (fun b => V5 m d (at_ b)) ∗ ∃ W, ⌜(K (F := F)).WBelow (T d) W n⌝ ∗ owes (T d : Thread nD τ) (0 : CellTallies nD τ sig (HIx 1)) W) := rfl
theorem region_post (d : Dev nD) (n : ℕ) : (region m n).post d = iprop(unscopedBufs d (fun b => V6 m d (at_ b)) ∗ ∃ W, ⌜(K (F := F)).WBelow (T d) W n⌝ ∗ owes (T d : Thread nD τ) (0 : CellTallies nD τ sig (HIx 1)) W) := rfl

/-- The TensorCore kernel's call, as the pipelines' program has it and as the launch's does. -/
abbrev enter : Prog (TpuEff nD τ sig (Elt F) (ΛP (F := F)) .tc) PUnit := Prog.lift (.customCall (Pipeline.entry 0) ())
theorem lift_enter : SparseCore.liftProg (Q := 1) (enter (F := F)) = Prog.lift (.customCall (SparseCore.inner (Pipeline.entry 0)) ()) := rfl

/-- The TensorCore kernel in the launch's program: its region, from every buffer at `V5` to every buffer at `V6`. -/
theorem kernel_run [∀ e, Nonempty (Elt F e)] (d : Dev nD) (n : ℕ) (Q : PUnit → sProp 𝕄) :
    iprop((iprop(boundary (T d : Thread nD τ) ∗ (unscopedBufs d (fun b => V6 m d (at_ b)) ∗ ∃ W, ⌜(K (F := F)).WBelow (T d) W n⌝ ∗ owes (T d : Thread nD τ) (0 : CellTallies nD τ sig (HIx 1)) W)) -∗ Q ⟨⟩)
        ∗ boundary (T d : Thread nD τ) ∗ (unscopedBufs d (fun b => V5 m d (at_ b)) ∗ ∃ W, ⌜(K (F := F)).WBelow (T d) W n⌝ ∗ owes (T d : Thread nD τ) (0 : CellTallies nD τ sig (HIx 1)) W)
        ∗ levAts (K (F := F)).L (K (F := F)).lev ∗ G d)
      ⊢ wp frame (wpE ((K (F := F)).defs (D (F := F))) 𝒱 (T d) none) Set.univ (Prog.lift (.customCall (SparseCore.inner (Pipeline.entry 0)) ())) Q := by
  haveI : (EP (F := F)).LandsIn (upEmb : UEmb _ 𝕄) := by unfold EP; infer_instance
  rw [← lift_enter]
  unfold G
  iintro ⟨Hk, Hb, Hpre, Hlv, Hg, Ht⟩
  iapply ((K (F := F)).wp_liftProg (D (F := F)) 𝒱 (T d) Set.univ none enter Q)
  iapply (Pipeline.RegionSeg.wp (pcfgs (F := F)) adm (pdats (VK m) n) (none : HIx 1) pinned_inj EP defs₀ 𝒱₀ (K (F := F)).L (K (F := F)).lev
    (region m n) d none (fun _ h => nomatch h) _ Q)
  isplitl [Hk]
  · iintro H
    rw [wp_ret]; imodintro
    iapply Hk; rw [region_post]; iexact H
  isplitl [Hb]; · iexact Hb
  isplitl [Hpre]; · rw [region_pre]; iexact Hpre
  isplitl [Hlv]; · iexact Hlv
  isplitl [Hg]; · iexact Hg
  iexact Ht

/-- What the TensorCore's state after the call keeps of what it owes and of its waits, apart from the rest. -/
theorem tcSt_one (d : Dev nD) : ∃ (n : ℕ) (R : sProp 𝕄), (K (F := F)).tcSt EH d 1 = iprop((∃ W, ⌜(K (F := F)).WBelow (T d) W n⌝
    ∗ owes (T d : Thread nD τ) (0 : CellTallies nD τ sig (HIx 1)) W) ∗ R) := by
  unfold SparseCore.Cfg.tcSt
  rw [(K (F := F)).Otc_end d (le_refl 1)]
  exact ⟨_, _, rfl⟩

theorem launch_held (d : Dev nD) :
    (unscopedBufs d (fun b => m ((T d : Thread nD τ).loc b)) : sProp 𝕄) = StableHlo.held (T d) ucRefs (V0 m d) := unscopedBufs_held d (V0 m d)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [launch_held]
  simp only [main, wp_bind, wp_pure]
  iintro ⟨#Hctx, Hst, ⟨Hb, Hh, Hts, -⟩, HG⟩
  iapply (StableHlo.wp_hlo_within 𝒱 (SparseCore.T d) none Set.univ (V := V0 m d) op_bufs.1) $$ [Hb Hh]
  · isplitl [Hb]; · iexact Hb
    iexact Hh
  iintro ⟨Hb, Hh⟩
  rw [wp_ret]; imodintro
  iapply (StableHlo.wp_hlo_within 𝒱 (SparseCore.T d) none Set.univ (V := (op0 (F := F)).result (V0 m d)) op_bufs.2.1) $$ [Hb Hh]
  · isplitl [Hb]; · iexact Hb
    iexact Hh
  iintro ⟨Hb, Hh⟩
  rw [wp_ret]; imodintro
  ihave Hh' := (call_split m d) $$ [Hh]
  · iexact Hh
  icases Hh' with ⟨Hcall, Hback⟩
  iapply ((K (F := F)).wp_run (D (F := F)) 𝒱 (EH := EH) (P := P m) κ d 0) $$ [Hst Hb Hcall Hback Hts HG]
  isplitr; · iexact Hctx
  isplitl [Hst]; · iexact Hst
  isplitl [Hcall]; · iexact Hcall
  iintro ⟨Hst, Hdn⟩
  ihave Hh := Hback $$ Hdn
  iapply (StableHlo.wp_hlo_within 𝒱 (SparseCore.T d) none Set.univ (V := V3 m d) op_bufs.2.2.1) $$ [Hb Hh]
  · isplitl [Hb]; · iexact Hb
    iexact Hh
  iintro ⟨Hb, Hh⟩
  rw [wp_ret]; imodintro
  iapply (StableHlo.wp_hlo_within 𝒱 (SparseCore.T d) none Set.univ (V := (op3 (F := F)).result (V3 m d)) op_bufs.2.2.2) $$ [Hb Hh]
  · isplitl [Hb]; · iexact Hb
    iexact Hh
  iintro ⟨Hb, Hh⟩
  rw [wp_ret]; imodintro
  ihave Hlv := (SparseCore.Cfg.ctx_levAts κ) $$ Hctx
  obtain ⟨n, R, hR⟩ := tcSt_one (F := F) d
  ihave Hst' := (Entails.of_eq hR) $$ [Hst]
  · iexact Hst
  icases Hst' with ⟨HW, Hrest⟩
  iapply (kernel_run m d n)
  isplitl [Hrest Hts]
  · iintro ⟨Hb, Hh, HW⟩
    imodintro
    isplitl [HW Hrest]
    · iapply (Entails.of_eq hR.symm)
      isplitl [HW]; · iexact HW
      iexact Hrest
    isplitl [Hh]
    · iapply (Entails.of_eq (unscopedBufs_held d (V6 m d))); iexact Hh
    isplitl [Hb] <;> iassumption
  isplitl [Hb]; · iexact Hb
  isplitl [Hh HW]
  · isplitl [Hh]
    · iapply (Entails.of_eq (unscopedBufs_held d (V5 m d)).symm); iexact Hh
    iexact HW
  isplitl [Hlv]; · iexact Hlv
  iexact HG

/-! ## The run -/

def fq (d : Dev nD) (s' : Phys nD τ sig (Elt F)) : Prop := ∀ b ∈ ucRefs, s'.mem.mem (d, b) = V6 m d b

theorem hfin (d : Dev nD) (s' : Phys nD τ sig (Elt F)) : iprop(FIN m d ∗ SI s') ⊢ (⌜fq m d s'⌝ : sProp 𝕄) := by
  have h : ∀ b ∈ ucRefs, iprop(FIN m d ∗ SI s') ⊢ (⌜s'.mem.mem (d, b) = V6 m d b⌝ : sProp 𝕄) := fun b hb => by
    iintro ⟨Hh, HSI⟩
    ihave Hb := (show (FIN m d : sProp 𝕄) ⊢ ((d, b) ↦{fullShare} V6 m d b) from
      bigSep_elim (Φ := fun b : DevRef τ sig => ((d, b) ↦{fullShare} V6 m d b : sProp 𝕄)) hb) $$ Hh
    ihave H := (SI_pointsTo_agree (st := s') (ℓ := (d, b)) (I := Finset.univ) (q := fullShare) (f := V6 m d b)) $$ [HSI Hb]
    · isplitl [HSI] <;> iassumption
    icases H with %h
    ipureintro; exact funext fun i => h i (Finset.mem_univ i)
  exact (forall_intro fun b => forall_intro fun hb => h b hb).trans ((forall_mono fun b => pure_forall.2).trans pure_forall.2)

/-- The end of the run: the result at the kernel's value, the arguments as they were, every counter at zero. -/
def QC : PUnit × MemSt nD τ sig (Elt F) → Prop := fun r =>
  (∀ c : Dev nD, r.2.mem (c, at_ main_v5) = encAt (VK m) c ∧ ∀ b ∈ args, r.2.mem (c, at_ b) = m (c, at_ b)) ∧ r.2.sem = fun _ => 0

theorem args_sub : ∀ b ∈ args, at_ b ∈ ucRefs := by decide
theorem result_mem : at_ main_v5 ∈ ucRefs := by decide

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m)
    (fun _ h hz => ⟨fun c => ⟨(h c _ result_mem).trans (V6_result m c), fun b hb => (h c _ (args_sub b hb)).trans (V6_arg m c hb)⟩, hz⟩)

end Cert.Proof.Sc

end
-- ==== Proof.Frames.lean ====
/-
  The frame claims of the kernel: run to the end it leaves every argument as it was and every counter at zero.

  The program over bits and the program over the extended reals are one text, so the run proved over any values gives both.
-/
module

public import proofs.«01_k».proof.Proof.Main
public import proofs.«01_k».proof.Proof.Gen.Kernel
public import proofs.«01_k».proof.Proof.Gen.Pre_finite_and_in_range

@[expose] public section

noncomputable section

namespace Cert.Proof

open Idealize.ShloMosaic Idealize.SL.Sem
open Cert.KernelIdeal

/-- What the run's end says of the arguments, one by one. -/
theorem args_kept {F : FTy → Type} [FloatOps F] {m : (ℓ : Loc nD τ sig) → Buf (Elt F) ℓ} {r : PUnit × MemSt nD τ sig (Elt F)} (h : Sc.QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  have k (b : Ref sig .tc) (hb : b ∈ Sc.args) : r.2.mem ((c.tc : Thread nD τ).loc b) = m ((c.tc : Thread nD τ).loc b) := (h.1 c).2 b hb
  refine ⟨k _ ?_, k _ ?_, k _ ?_, k _ ?_, k _ ?_, k _ ?_, k _ ?_, k _ ?_, k _ ?_, k _ ?_⟩ <;> decide

theorem frame_kernelIdeal : Cert.quiescent_KernelIdeal := fun m ρ _ =>
  (θ_run Cert.KernelIdeal.defs _ _).mono (fun _ h => ⟨args_kept h, h.2⟩) (Sc.run_main (F := Ideal) m ρ)

theorem frame_kernelIdeal_pre : Cert.quiescent_KernelIdeal_pre_finite_and_in_range := fun m ρ _ =>
  (θ_run Cert.KernelIdeal.defs _ _).mono (fun _ h => ⟨args_kept h, h.2⟩) (Sc.run_main (F := Ideal) m ρ)

set_option maxRecDepth 8000 in
/-- The kernels' bodies over bits are those of the ideal text, read over bits: processor by processor, call by call. -/
theorem bodies_eq : Cert.Kernel.defs₀ (F := Bits) = Cert.KernelIdeal.defs₀ (F := Bits) := by
  funext p l a
  match p, l, a with
  | .scVector c s, ⟨0, _⟩, a => rfl
  | .tc, ⟨0, _⟩, a => rfl
  | .scScalar c, ⟨0, _⟩, a => rfl
  | .scVector c s, ⟨1, _⟩, a => rfl
  | .tc, ⟨1, _⟩, a => rfl
  | .scScalar c, ⟨1, _⟩, a => rfl

theorem defs_eq : Cert.Kernel.defs (F := Bits) = Cert.KernelIdeal.defs (F := Bits) :=
  congrArg (fun D : Defs nD τ sig (Elt Bits) Λ₀ => sc.defs (Pipeline.defs pcfgs D)) bodies_eq

theorem frame_kernel : Cert.quiescent_Kernel := fun m ρ _ => by
  have h := (θ_run Cert.KernelIdeal.defs _ _).mono (fun _ h => (⟨args_kept h, h.2⟩ : (∀ c : Dev nD, _) ∧ _)) (Sc.run_main (F := Bits) m ρ)
  rw [← defs_eq] at h
  exact h

end Cert.Proof

end
-- ==== Proof.Reference.lean ====
/-
  The frame claims of the reference: it is a straight line of host operations, none of which touches a semaphore.
-/
module

public import proofs.«01_k».proof.Defs
public import proofs.«01_k».proof.Proof.Gen.ReferenceIdeal.Run
public import proofs.«01_k».proof.Proof.Gen.Pre_finite_and_in_range
public import Idealize.ShloMosaic.Lib.Quiescent

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

theorem frame_reference_pre : Cert.quiescent_ReferenceIdeal_pre_finite_and_in_range := fun m ρ _ => frame_reference m ρ trivial

end Cert.Proof

end
-- ==== Proof.MaskedSum.lean ====
/-
  Sums of the positions below a length, over the extended reals: no program is mentioned here.

  A row `x` of `n` values has a length `k` with `0 ≤ k ≤ n`; positions from `k` on do not count.  One side of the claim
  sums the counted values first and applies the affine map to the sum; the other applies it to each value and then sums.
  The two agree when the values and the factor are finite (over the extended reals a product does not distribute over a
  sum of infinities of both signs); the offset may be infinite.
-/
module

public import Mathlib.Data.EReal.Operations
public import Mathlib.Algebra.BigOperators.Intervals
public import Mathlib.Algebra.BigOperators.Ring.Finset

@[expose] public section

noncomputable section

namespace Cert.Proof

open Finset

/-- `x t` where the position counts, zero where it does not. -/
def counted (x : ℕ → EReal) (len : ℤ) (t : ℕ) : EReal := if (t : ℤ) < len then x t else 0

/-- The sum of the counted values among the first `n`. -/
def maskedSum (x : ℕ → EReal) (len : ℤ) (n : ℕ) : EReal := ∑ t ∈ range n, counted x len t

/-- A sum over the counted positions only, when the length is at most `n`. -/
theorem sum_ite_lt (f : ℕ → EReal) {n k : ℕ} (hk : k ≤ n) :
    (∑ t ∈ range n, if (t : ℤ) < (k : ℤ) then f t else 0) = ∑ t ∈ range k, f t := by
  rw [← sum_filter]
  refine sum_congr (ext fun t => ?_) fun _ _ => rfl
  simp only [mem_filter, mem_range, Nat.cast_lt]
  omega

/-- A finite factor goes through a sum of finite values. -/
theorem sum_mul_of_finite (x : ℕ → EReal) (w : EReal) (hx : ∀ t, x t ≠ ⊤ ∧ x t ≠ ⊥) (hw : w ≠ ⊤ ∧ w ≠ ⊥) (k : ℕ) :
    ∑ t ∈ range k, x t * w = (∑ t ∈ range k, x t) * w := by
  lift w to ℝ using hw
  have e : ∃ y : ℕ → ℝ, x = fun t => (y t : EReal) := ⟨fun t => (x t).toReal, funext fun t => (EReal.coe_toReal (hx t).1 (hx t).2).symm⟩
  obtain ⟨y, rfl⟩ := e
  have h (f : ℕ → ℝ) : ∑ t ∈ range k, ((f t : ℝ) : EReal) = ((∑ t ∈ range k, f t : ℝ) : EReal) := by
    induction k with
    | zero => simp
    | succ k ih => rw [sum_range_succ, sum_range_succ, ih, EReal.coe_add]
  rw [h, ← EReal.coe_mul, sum_mul, ← h]
  exact sum_congr rfl fun t _ => (EReal.coe_mul _ _).symm

/-- The affine map of the masked sum is the masked sum of the affine maps. -/
theorem masked_affine (x : ℕ → EReal) (w b : EReal) (len : ℤ) (n : ℕ) (hx : ∀ t, x t ≠ ⊤ ∧ x t ≠ ⊥) (hw : w ≠ ⊤ ∧ w ≠ ⊥)
    (h0 : 0 ≤ len) (hn : len ≤ n) :
    ∑ t ∈ range n, (x t * w + b) * (if (t : ℤ) < len then 1 else 0) = maskedSum x len n * w + ((len : ℝ) : EReal) * b := by
  obtain ⟨k, rfl⟩ := Int.eq_ofNat_of_zero_le h0
  have hk : k ≤ n := by omega
  unfold maskedSum counted
  simp only [mul_ite, mul_one, mul_zero]
  rw [sum_ite_lt _ hk, sum_ite_lt _ hk, sum_add_distrib, sum_mul_of_finite x w hx hw k, sum_const, card_range,
    EReal.nsmul_eq_mul]
  norm_cast

/-- The first `n` positions and the `k` after them. -/
theorem maskedSum_add (x : ℕ → EReal) (len : ℤ) (n k : ℕ) :
    maskedSum x len (n + k) = maskedSum x len n + ∑ t ∈ range k, counted x len (n + t) := sum_range_add _ n k

end Cert.Proof

end
-- ==== Proof.TileSum.lean ====
/-
  One task's running vectors over the extended reals: summed over the lanes, they add up every counted value of the chunks
  swept so far.

  `total` is the sum of the four running vectors over all their lanes.  A strip adds sixteen consecutive values, a trip
  sixty-four and a chunk five hundred and twelve, each value counted where its position is below the length.
-/
module

public import proofs.«01_k».proof.Proof.TileValue
public import proofs.«01_k».proof.Proof.MaskedSum
public import Idealize.ShloMosaic.Lib.Pointwise
public import Idealize.ShloMosaic.PureOps.Ideal.Laws

@[expose] public section

noncomputable section

namespace Cert.Proof.Sc

open Cert.KernelIdeal Cert.KernelIdeal.Gen Idealize.ShloMosaic

/-- The comparison of a position with a length, in words, decides it. -/
theorem slt_position {p : ℕ} (hp : p < 2 ^ 31) (k : BitVec 32) :
    IntOp.cmpi .slt (BitVec.ofNat 32 p) k = BitVec.ofBool (decide ((p : ℤ) < k.toInt)) := by
  show BitVec.ofBool ((BitVec.ofNat 32 p).slt k) = _
  have e : (BitVec.ofNat 32 p).toNat = p := by rw [BitVec.toNat_ofNat]; exact Nat.mod_eq_of_lt (by omega)
  rw [BitVec.slt_eq_decide, BitVec.toInt_eq_toNat_of_lt (by rw [e]; omega), e]

/-- The value selected by that comparison is the counted one. -/
theorem select_position {p : ℕ} (hp : p < 2 ^ 31) (k : BitVec 32) (x : ℕ → EReal) :
    (if IntOp.cmpi .slt (BitVec.ofNat 32 p) k = 1 then x p else 0) = counted x k.toInt p := by
  rw [slt_position hp]
  unfold counted
  by_cases h : (p : ℤ) < k.toInt <;> simp [h]

/-- Row `r` of a matrix with `n` columns, as values at the positions `0, 1, …` (read modulo `n`, so that every number is a position). -/
def rowVals {n : ℕ} [NeZero n] (f : (⟨2, ![16, n]⟩ : Shape).Idx → EReal) (r : Fin 16) (t : ℕ) : EReal := f (ix2 r (Fin.ofNat n t))

theorem rowVals_fin {n : ℕ} [NeZero n] (f : (⟨2, ![16, n]⟩ : Shape).Idx → EReal) (r : Fin 16) (k : Fin n) :
    rowVals f r k.val = f (ix2 r k) := congrArg (fun i => f (ix2 r i)) (Fin.ofNat_val_eq_self k)

/-- The position of lane 0 of strip `j` of trip `k`. -/
theorem posn_eq {base : BitVec 32} {p : ℕ} (hb : base = BitVec.ofNat 32 p) (k j : ℕ) :
    posn base k (BitVec.ofNat 32 j) = BitVec.ofNat 32 (p + (64 * k + j)) := by
  subst hb
  show (BitVec.ofNat 32 p + (0#32 + BitVec.ofNat 32 k * 1#32) * 64#32) + BitVec.ofNat 32 j = _
  simp only [BitVec.ofNat_add, BitVec.ofNat_mul, BitVec.zero_add, BitVec.mul_one, BitVec.add_assoc, BitVec.mul_comm]

/-- The four running vectors summed over the lanes. -/
def total (a : Acc Ideal) : EReal :=
  ∑ l : Fin 16, (a.1 (ix1 l) + a.2.1 (ix1 l) + a.2.2.1 (ix1 l) + a.2.2.2 (ix1 l))

section Sweep

variable {lens : IVec S16 32} {len : BitVec 32} (hlen : ∀ l : Fin 16, lens (ix1 l) = len)
variable {x : ℕ → EReal} {p : ℕ} (hp : p + 512 ≤ 2 ^ 31) {b : Vec Ideal S512 .f32} (hx : ∀ i < 512, b (chunkIx i) = x (p + i))

include hlen hp hx

/-- A strip, lane by lane. -/
theorem addStrip_apply {o : ℕ} (ho : o + 16 ≤ 512) (acc : FVec Ideal S16 .f32) (l : Fin 16) :
    addStrip lens laneIds (BitVec.ofNat 32 (p + o)) acc (strip b o) (ix1 l) = acc (ix1 l) + counted x len.toInt (p + o + l.val) := by
  have hl := l.isLt
  have hv : shapeCast S16 (strip b o) shapeCasts_S16_S16 (ix1 l) = x (p + o + l.val) := by
    rw [shapeCast_self]
    exact (hx (o + l.val) (by omega)).trans (by rw [Nat.add_assoc])
  have hw : BitVec.ofNat 32 (p + o) + laneIds (ix1 l) = BitVec.ofNat 32 (p + o + l.val) := by
    rw [BitVec.ofNat_add (p + o)]
    congr 1
    show BitVec.ofNat 32 (0 * 16 + l.val) = _
    rw [Nat.zero_mul, Nat.zero_add]
  rw [← select_position (by omega) len x, ← hv, ← hw, ← hlen l, ← Ideal.ofBits_zero_f32]
  rfl

/-- A trip adds sixty-four consecutive counted values. -/
theorem total_trip {base : BitVec 32} (hb : base = BitVec.ofNat 32 p) {k : ℕ} (hk : k < 8) (a : Acc Ideal) :
    total (trip lens laneIds base b k a) = total a + ∑ t ∈ Finset.range 64, counted x len.toInt (p + 64 * k + t) := by
  have e (j : ℕ) (hj : j ≤ 48) (acc : FVec Ideal S16 .f32) (l : Fin 16) :
      addStrip lens laneIds (posn base k (BitVec.ofNat 32 j)) acc (strip b (64 * k + j)) (ix1 l)
        = acc (ix1 l) + counted x len.toInt (p + (64 * k + j) + l.val) := by
    rw [posn_eq hb]
    exact addStrip_apply hlen hp hx (by omega) acc l
  have s : ∑ t ∈ Finset.range 64, counted x len.toInt (p + 64 * k + t)
      = ∑ l : Fin 16, (counted x len.toInt (p + (64 * k + 0) + l.val) + counted x len.toInt (p + (64 * k + 16) + l.val)
          + counted x len.toInt (p + (64 * k + 32) + l.val) + counted x len.toInt (p + (64 * k + 48) + l.val)) := by
    rw [show Finset.range 64 = Finset.range (16 + 16 + 16 + 16) from rfl, Finset.sum_range_add, Finset.sum_range_add, Finset.sum_range_add]
    simp only [Finset.sum_add_distrib, Finset.sum_range, Nat.add_assoc, Nat.add_zero, Nat.zero_add, Nat.reduceAdd]
  rw [s]
  unfold total
  rw [← Finset.sum_add_distrib]
  refine Finset.sum_congr rfl fun l _ => ?_
  have e0 := e 0 (by omega) a.1 l
  have e1 := e 16 (by omega) a.2.1 l
  have e2 := e 32 (by omega) a.2.2.1 l
  have e3 := e 48 (by omega) a.2.2.2 l
  show addStrip lens laneIds (posn base k (BitVec.ofNat 32 0)) a.1 (strip b (64 * k + 0)) (ix1 l)
      + addStrip lens laneIds (posn base k (BitVec.ofNat 32 16)) a.2.1 (strip b (64 * k + 16)) (ix1 l)
      + addStrip lens laneIds (posn base k (BitVec.ofNat 32 32)) a.2.2.1 (strip b (64 * k + 32)) (ix1 l)
      + addStrip lens laneIds (posn base k (BitVec.ofNat 32 48)) a.2.2.2 (strip b (64 * k + 48)) (ix1 l) = _
  rw [e0, e1, e2, e3]
  abel

/-- A sweep adds the chunk's counted values. -/
theorem total_sweep {base : BitVec 32} (hb : base = BitVec.ofNat 32 p) (a : Acc Ideal) (n : ℕ) (hn : n ≤ 8) :
    total (sweep lens laneIds base b a n) = total a + ∑ t ∈ Finset.range (64 * n), counted x len.toInt (p + t) := by
  induction n with
  | zero => simp [sweep]
  | succ n ih =>
    show total (trip lens laneIds base b n (sweep lens laneIds base b a n)) = _
    rw [total_trip hlen hp hx hb (by omega), ih (by omega), Nat.mul_succ, Finset.sum_range_add, ← add_assoc]
    simp only [Nat.add_assoc]

end Sweep

/-- Before the first chunk the total is zero. -/
theorem total_acc0 : total acc0 = 0 := by
  have z (l : Fin 16) : (k0_pay25 (F := Ideal)) (ix1 l) = 0 := Ideal.ofBits_zero_f32
  unfold total acc0
  simp [z]

/-- The row a task leaves, summed over its lanes, is the total of its running vectors. -/
theorem sum_combine (a : Acc Ideal) : ∑ l : Fin 16, k0_pay3 a.1 a.2.1 a.2.2.1 a.2.2.2 (ix1 l) = total a := by
  unfold total k0_pay3
  refine Finset.sum_congr rfl fun l _ => ?_
  rw [shapeCast_self]
  show (a.1 (ix1 l) + a.2.1 (ix1 l)) + (a.2.2.1 (ix1 l) + a.2.2.2 (ix1 l)) = _
  abel

end Cert.Proof.Sc

end
-- ==== Proof.RowSum.lean ====
/-
  The partial sums over the extended reals: rows `r` and `16 + r`, summed over their lanes, are the two halves of the masked
  sum of row `r` of the weights.

  Task `w` works on row `w % 16`, on the half that starts at position `w / 16 * 2048`, in four chunks of 512 values; its
  lanes all hold the row's length.
-/
module

public import proofs.«01_k».proof.Proof.TileSum
public import proofs.«01_k».proof.Proof.Task

@[expose] public section

noncomputable section

namespace Cert.Proof.Sc

open Cert.KernelIdeal Cert.KernelIdeal.Gen Idealize.ShloMosaic

local notation "aV" => (Memref.whole Cert.KernelIdeal.main_arg0_scv : Memref Cert.KernelIdeal.sig Kind.scVector Space.hbm Cert.KernelIdeal.S16x4096 EltTy.f32)
local notation "bV" => (Memref.whole Cert.KernelIdeal.main_v1_scv : Memref Cert.KernelIdeal.sig Kind.scVector Space.hbm Cert.KernelIdeal.S16x16 EltTy.i32)

/-! ## Where a task works -/

/-- The row a task works on, and the first position of its half. -/
def rowOf (L : grid0.Coords) : Fin 16 := ⟨(wid L).val % 16, Nat.mod_lt _ (by decide)⟩
def halfOf (L : grid0.Coords) : ℕ := (wid L).val / 16 * 2048

theorem halfOf_le (L : grid0.Coords) : halfOf L ≤ 2048 := by have := (wid L).isLt; unfold halfOf; omega

theorem off_chunk0 : ∀ L : grid0.Coords, k0_off1 L 0 = (rowOf L).val ∧ k0_off1 L 1 = halfOf L := by decide +kernel
theorem off_chunk : ∀ (L : grid0.Coords) (g : Fin 3),
    k0_off3 L (BitVec.ofNat 32 (512 + 512 * g.val)) 0 = (rowOf L).val
      ∧ k0_off3 L (BitVec.ofNat 32 (512 + 512 * g.val)) 1 = halfOf L + (512 + 512 * g.val) := by decide +kernel
theorem off_lens : ∀ L : grid0.Coords, k0_off2 L 0 = (rowOf L).val ∧ k0_off2 L 1 = 0 := by decide +kernel

/-! ## What it reads there -/

variable (fa : Vec Ideal S16x4096 .f32) (fb : IVec S16x16 32) (L : grid0.Coords)

theorem chunk0_apply {i : ℕ} (hi : i < 512) : chunk0 L fa (chunkIx i) = rowVals fa (rowOf L) (halfOf L + i) := by
  have h := halfOf_le L
  refine read_rowPiece aV (k0_off1 L) (k0_off1_inb L) squeezes_S1x512_S512 fa (chunkIx i) (ix2 (rowOf L) (Fin.ofNat 4096 (halfOf L + i))) ?_ ?_
  · exact (off_chunk0 L).1.symm
  · rw [(off_chunk0 L).2]
    show (halfOf L + i) % 4096 = halfOf L + i % 512
    omega

theorem chunk_apply (g : Fin 3) {i : ℕ} (hi : i < 512) :
    chunk L g fa (chunkIx i) = rowVals fa (rowOf L) (halfOf L + (512 + 512 * g.val) + i) := by
  have h := halfOf_le L
  have hg := g.isLt
  refine read_rowPiece aV (k0_off3 L (BitVec.ofNat 32 (512 + 512 * g.val))) (k0_off3_inb L g) squeezes_S1x512_S512 fa (chunkIx i)
    (ix2 (rowOf L) (Fin.ofNat 4096 (halfOf L + (512 + 512 * g.val) + i))) ?_ ?_
  · exact (off_chunk L g).1.symm
  · rw [(off_chunk L g).2]
    show (halfOf L + (512 + 512 * g.val) + i) % 4096 = halfOf L + (512 + 512 * g.val) + i % 512
    omega

theorem lens_apply (l : Fin 16) : lens Ideal L fb (ix1 l) = fb (ix2 (rowOf L) l) :=
  read_rowPiece (Val := Elt Ideal) bV (k0_off2 L) (k0_off2_inb L) squeezes_S1x16_S16 fb (ix1 l) (ix2 (rowOf L) l)
    (off_lens L).1.symm (by rw [(off_lens L).2]; exact (Nat.zero_add _).symm)

/-! ## What it leaves -/

theorem base_eq (c : ℕ) : Scalar.addi (halfBase L) (BitVec.ofNat 32 c) = BitVec.ofNat 32 (halfOf L + c) :=
  (BitVec.ofNat_add (halfOf L) c).symm

/-- A task's row, summed over its lanes: the counted values of its half. -/
theorem sum_taskRow {len : BitVec 32} (hlen : ∀ l : Fin 16, fb (ix2 (rowOf L) l) = len) :
    ∑ l : Fin 16, taskRow L fa fb (ix1 l) = ∑ t ∈ Finset.range 2048, counted (rowVals fa (rowOf L)) len.toInt (halfOf L + t) := by
  have hL := halfOf_le L
  have hl (l : Fin 16) : lens Ideal L fb (ix1 l) = len := (lens_apply fb L l).trans (hlen l)
  have s (g : Fin 3) (a : Acc Ideal) :
      total (sweep (lens Ideal L fb) laneIds (Scalar.addi (halfBase L) (BitVec.ofNat 32 (512 + 512 * g.val))) (chunk L g fa) a 8)
        = total a + ∑ t ∈ Finset.range 512, counted (rowVals fa (rowOf L)) len.toInt (halfOf L + (512 + 512 * g.val) + t) :=
    total_sweep hl (by have := g.isLt; omega) (fun i hi => chunk_apply fa L g hi) (base_eq L _) a 8 (le_refl _)
  have s0 : total (acc1 L fa (lens Ideal L fb))
      = total acc0 + ∑ t ∈ Finset.range 512, counted (rowVals fa (rowOf L)) len.toInt (halfOf L + t) :=
    total_sweep hl (by omega) (fun i hi => chunk0_apply fa L hi) (base_eq L 0) acc0 8 (le_refl _)
  have s1 : total (acc2 L fa (lens Ideal L fb)) = _ := s 0 _
  have s2 : total (acc3 L fa (lens Ideal L fb)) = _ := s 1 _
  have s3 : total (acc4 L fa (lens Ideal L fb)) = _ := s 2 _
  refine (sum_combine (acc4 L fa (lens Ideal L fb))).trans ?_
  rw [s3, s2, s1, s0, total_acc0, zero_add, show Finset.range 2048 = Finset.range (512 + 512 + 512 + 512) from rfl,
    Finset.sum_range_add, Finset.sum_range_add, Finset.sum_range_add]
  simp only [Nat.add_assoc]
  rfl

variable (m : (ℓ : Loc nD τ sig) → Buf (Elt Ideal) ℓ) (d : Dev nD)

/-- The lengths the tasks read: row `r` holds the length of row `r` in every lane. -/
theorem lensArr_apply (r l : Fin 16) : lensArr m d (ix2 r l) = m (d, Proc.devRef .tc (main_arg2 : Ref sig .tc)) (ix1 r) := by
  have e0 : (op0 (F := Ideal)).result (V0 m d) (Proc.devRef .tc (main_v0 : Ref sig .tc))
      = broadcastInDim S16x1 ![0] bcast_S16_S16x1_0 (m (d, Proc.devRef .tc (main_arg2 : Ref sig .tc))) :=
    StableHlo.unary_result main_arg2 main_v0 _ _ _ _
  have e1 : (op1 (F := Ideal)).result ((op0 (F := Ideal)).result (V0 m d)) (Proc.devRef .tc (main_v1 : Ref sig .tc))
      = broadcastInDim S16x16 ![0, 1] bcast_S16x1_S16x16_0_1
        ((op0 (F := Ideal)).result (V0 m d) (Proc.devRef .tc (main_v0 : Ref sig .tc))) :=
    StableHlo.unary_result main_v0 main_v1 _ _ _ _
  refine (congrFun e1 (ix2 r l)).trans ?_
  rw [e0]
  pointwise

/-- Rows `r` and `16 + r` of the partial sums, summed over the lanes, make the masked sum of row `r`. -/
theorem partials_sum (r : Fin 16) :
    ∑ l : Fin 16, partials m d (ix2 (⟨r.val, by omega⟩ : Fin 32) l) + ∑ l : Fin 16, partials m d (ix2 (⟨16 + r.val, by omega⟩ : Fin 32) l)
      = maskedSum (rowVals (m (aLoc d)) r) (m (d, Proc.devRef .tc (main_arg2 : Ref sig .tc)) (ix1 r)).toInt 4096 := by
  have h (w : Fin 32) (hw : w.val % 16 = r.val) : ∑ l : Fin 16, partials m d (ix2 w l)
      = ∑ t ∈ Finset.range 2048, counted (rowVals (m (aLoc d)) r)
          (m (d, Proc.devRef .tc (main_arg2 : Ref sig .tc)) (ix1 r)).toInt (w.val / 16 * 2048 + t) := by
    have e : wid (coordsOf w) = w := Fin.ext (by show 2 * (w.val / 2) + w.val % 2 = w.val; omega)
    have er : rowOf (coordsOf w) = r := Fin.ext (by show (wid (coordsOf w)).val % 16 = _; rw [e, hw])
    have eh : halfOf (coordsOf w) = w.val / 16 * 2048 := by unfold halfOf; rw [e]
    have t := sum_taskRow (m (aLoc d)) (lensArr m d) (coordsOf w) (len := m (d, Proc.devRef .tc (main_arg2 : Ref sig .tc)) (ix1 r))
      (fun l => by rw [er]; exact lensArr_apply m d r l)
    rw [er, eh] at t
    exact t
  have hr := r.isLt
  refine Eq.trans ?_ (maskedSum_add _ _ 2048 2048).symm
  rw [h _ (Nat.mod_eq_of_lt hr), h _ (by show (16 + r.val) % 16 = r.val; omega)]
  unfold maskedSum
  have e0 : r.val / 16 * 2048 = 0 := by omega
  have e1 : (16 + r.val) / 16 * 2048 = 2048 := by omega
  simp only [e0, e1, Nat.zero_add]

end Cert.Proof.Sc

end
-- ==== Proof.Embed.lean ====
/-
  The TensorCore kernel's two embeddings over the extended reals, entry by entry.

  Each entry is the logistic of `S · w + k · b`: `S` the masked sum of a row, `k` the row's length, `w` and `b` the
  column's factor and offset.  For the weights `S` comes from the partial sums, for the biases the kernel forms it.
-/
module

public import proofs.«01_k».proof.Proof.TileSum
public import Idealize.ShloMosaic.Lib.Pointwise
public import Idealize.ShloMosaic.Lib.IdealHost

@[expose] public section

noncomputable section

namespace Cert.Proof.Sc

open Cert.KernelIdeal Cert.KernelIdeal.Gen Idealize.ShloMosaic

/-- An entry of the weights' embedding, from the partial sums `s` and the lengths `lw`. -/
theorem embedW_apply (s : Vec Ideal S32x16 .f32) (lw : Vec Ideal S16x1 .i32) (ww bw : Vec Ideal S1024 .f32) (r : Fin 16) (c : Fin 1024) :
    k1_pay2 s lw ww bw (ix2 r c)
      = Ideal.logistic ((∑ l : Fin 16, s (ix2 (⟨r.val, by omega⟩ : Fin 32) l) + ∑ l : Fin 16, s (ix2 (⟨16 + r.val, by omega⟩ : Fin 32) l)) * ww (ix1 c)
          + (((lw (ix2 r 0)).toInt : ℝ) : EReal) * bw (ix1 c)) := by
  pointwise [k1_pay2]
  rfl

/-- An entry of the biases' embedding, from the biases `b` and the lengths `lb`. -/
theorem embedB_apply (lb : Vec Ideal S16x1 .i32) (b : Vec Ideal S16x2048 .f32) (wb bb : Vec Ideal S32 .f32) (r : Fin 16) (c : Fin 32) :
    k1_pay3 lb b wb bb (ix2 r c)
      = Ideal.logistic (maskedSum (rowVals b r) (lb (ix2 r 0)).toInt 2048 * wb (ix1 c)
          + (((lb (ix2 r 0)).toInt : ℝ) : EReal) * bb (ix1 c)) := by
  have e : ∑ k : Fin 2048, Scalar.select (IntOp.cmpi .slt (BitVec.ofNat 32 k.val) (lb (ix2 r 0))) (b (ix2 r k)) 0
      = maskedSum (rowVals b r) (lb (ix2 r 0)).toInt 2048 := by
    unfold maskedSum
    rw [Finset.sum_range]
    refine Finset.sum_congr rfl fun k _ => ?_
    rw [← select_position (by have := k.isLt; omega), rowVals_fin]
    rfl
  rw [← e]
  pointwise [k1_pay3]
  rfl

end Cert.Proof.Sc

end
-- ==== Proof.RefValue.lean ====
/-
  The reference over the extended reals, entry by entry.

  It forms `x · w + b` at every position of a row, keeps the positions below the row's length by a factor one or zero, sums
  them and takes the logistic, spelt out as `1 / (1 + exp (-·))`.  Under the precondition the sum is `S · w + k · b`, `S` the
  masked sum of the row and `k` its length.
-/
module

public import proofs.«01_k».proof.Proof.TileSum
public import proofs.«01_k».proof.Proof.Gen.ReferenceIdeal.Run
public import Idealize.ShloMosaic.Lib.Pointwise
public import Idealize.ShloMosaic.Lib.IdealHost

@[expose] public section

noncomputable section

namespace Cert.Proof

open Idealize.ShloMosaic Cert.Proof.Sc

/-- A row's masked sum of affine maps, the mask formed in words. -/
theorem sum_affine_words {n : ℕ} [NeZero n] (hn : n < 2 ^ 31) (f : (⟨2, ![16, n]⟩ : Shape).Idx → EReal) (r : Fin 16) (k : BitVec 32) (w b : EReal)
    (hf : ∀ i, f i ≠ ⊤ ∧ f i ≠ ⊥) (hw : w ≠ ⊤ ∧ w ≠ ⊥) (h0 : 0 ≤ k.toInt) (hk : k.toInt ≤ n) :
    ∑ t : Fin n, (f (ix2 r t) * w + b) * (FloatOps.uitofp (F := Ideal) .f32 (IntOp.cmpi .slt (BitVec.ofNat 32 t.val) k) : EReal)
      = maskedSum (rowVals f r) k.toInt n * w + ((k.toInt : ℝ) : EReal) * b := by
  rw [← masked_affine (rowVals f r) w b k.toInt n (fun t => hf _) hw h0 hk, Finset.sum_range]
  refine Finset.sum_congr rfl fun t _ => ?_
  rw [rowVals_fin, slt_position (by have := t.isLt; omega)]
  congr 1
  show (((BitVec.ofBool (decide ((t.val : ℤ) < k.toInt))).toNat : ℝ) : EReal) = _
  by_cases h : (t.val : ℤ) < k.toInt <;> simp [h]

open Cert.ReferenceIdeal Cert.ReferenceIdeal.Gen

/-- The embedding of the weights, as the reference composes it. -/
def refW (x : FVec Ideal S16x4096 .f32) (k : IVec S16 32) (w b : FVec Ideal S1024 .f32) : FVec Ideal S16x1024 .f32 :=
  Host.divf (broadcastInDim S16x1024 ![] bcast_S_S16x1024 (constant S_ .f32 0x3F800000#32))
    (addf (broadcastInDim S16x1024 ![] bcast_S_S16x1024 (constant S_ .f32 0x3F800000#32))
      (Host.exp (Host.negf (Host.reduceAdd
        (mulf
          (addf
            (mulf
              (broadcastInDim S16x4096x1024 ![0, 1, 2] bcast_S16x4096x1_S16x4096x1024_0_1_2 (broadcastInDim S16x4096x1 ![0, 1] bcast_S16x4096_S16x4096x1_0_1 x))
              (broadcastInDim S16x4096x1024 ![0, 1, 2] bcast_S1x1x1024_S16x4096x1024_0_1_2 (broadcastInDim S1x1x1024 ![2] bcast_S1024_S1x1x1024_2 w)))
            (broadcastInDim S16x4096x1024 ![0, 1, 2] bcast_S1x1x1024_S16x4096x1024_0_1_2 (broadcastInDim S1x1x1024 ![2] bcast_S1024_S1x1x1024_2 b)))
          (broadcastInDim S16x4096x1024 ![0, 1, 2] bcast_S16x4096x1_S16x4096x1024_0_1_2 (broadcastInDim S16x4096x1 ![0, 1] bcast_S16x4096_S16x4096x1_0_1
            (uitofp .f32 (cmpi .slt
              (broadcastInDim S16x4096 ![0, 1] bcast_S1x4096_S16x4096_0_1 (broadcastInDim S1x4096 ![1] bcast_S4096_S1x4096_1 (iotaInDim S4096 32 0)))
              (broadcastInDim S16x4096 ![0, 1] bcast_S16x1_S16x4096_0_1 (broadcastInDim S16x1 ![0] bcast_S16_S16x1_0 k)))))))
        (constant S_ .f32 0x00000000#32) reducesTo_S16x4096x1024_S16x1024_d1 h_S_))))

/-- The embedding of the biases, as the reference composes it. -/
def refB (x : FVec Ideal S16x2048 .f32) (k : IVec S16 32) (w b : FVec Ideal S32 .f32) : FVec Ideal S16x32 .f32 :=
  Host.divf (broadcastInDim S16x32 ![] bcast_S_S16x32 (constant S_ .f32 0x3F800000#32))
    (addf (broadcastInDim S16x32 ![] bcast_S_S16x32 (constant S_ .f32 0x3F800000#32))
      (Host.exp (Host.negf (Host.reduceAdd
        (mulf
          (addf
            (mulf
              (broadcastInDim S16x2048x32 ![0, 1, 2] bcast_S16x2048x1_S16x2048x32_0_1_2 (broadcastInDim S16x2048x1 ![0, 1] bcast_S16x2048_S16x2048x1_0_1 x))
              (broadcastInDim S16x2048x32 ![0, 1, 2] bcast_S1x1x32_S16x2048x32_0_1_2 (broadcastInDim S1x1x32 ![2] bcast_S32_S1x1x32_2 w)))
            (broadcastInDim S16x2048x32 ![0, 1, 2] bcast_S1x1x32_S16x2048x32_0_1_2 (broadcastInDim S1x1x32 ![2] bcast_S32_S1x1x32_2 b)))
          (broadcastInDim S16x2048x32 ![0, 1, 2] bcast_S16x2048x1_S16x2048x32_0_1_2 (broadcastInDim S16x2048x1 ![0, 1] bcast_S16x2048_S16x2048x1_0_1
            (uitofp .f32 (cmpi .slt
              (broadcastInDim S16x2048 ![0, 1] bcast_S1x2048_S16x2048_0_1 (broadcastInDim S1x2048 ![1] bcast_S2048_S1x2048_1 (iotaInDim S2048 32 0)))
              (broadcastInDim S16x2048 ![0, 1] bcast_S16x1_S16x2048_0_1 (broadcastInDim S16x1 ![0] bcast_S16_S16x1_0 k)))))))
        (constant S_ .f32 0x00000000#32) reducesTo_S16x2048x32_S16x32_d1 h_S_))))

/-- The reference's result. -/
def refOut (x : FVec Ideal S16x4096 .f32) (y : FVec Ideal S16x2048 .f32) (k l : IVec S16 32) (ww bw : FVec Ideal S1024 .f32) (wb bb : FVec Ideal S32 .f32)
    (we : FVec Ideal S1056x1024 .f32) (be : FVec Ideal S1024 .f32) : FVec Ideal S16x1024 .f32 :=
  maximumf
    (addf
      (Host.dotGeneral dot_S16x1056_S1056x1024_S16x1024_1_0_0_1_n_n none
        (concatenate S16x1056 1 [⟨S16x1024, refW x k ww bw⟩, ⟨S16x32, refB y l wb bb⟩] concatenates_S16x1024_S16x32_S16x1056_d1) we)
      (broadcastInDim S16x1024 ![0, 1] bcast_S1x1024_S16x1024_0_1 (broadcastInDim S1x1024 ![1] bcast_S1024_S1x1024_1 be)))
    (broadcastInDim S16x1024 ![] bcast_S_S16x1024 (constant S_ .f32 0x00000000#32))

/-- An entry of the reference's embedding of the weights. -/
theorem refW_apply (x : FVec Ideal S16x4096 .f32) (k : IVec S16 32) (w b : FVec Ideal S1024 .f32) (hx : ∀ i, x i ≠ ⊤ ∧ x i ≠ ⊥)
    (hw : ∀ i, w i ≠ ⊤ ∧ w i ≠ ⊥) (hk : ∀ i, 0 ≤ (k i).toInt ∧ (k i).toInt ≤ 4096) (r : Fin 16) (c : Fin 1024) :
    refW x k w b (ix2 r c) = Ideal.logistic (maskedSum (rowVals x r) (k (ix1 r)).toInt 4096 * w (ix1 c) + (((k (ix1 r)).toInt : ℝ) : EReal) * b (ix1 c)) := by
  rw [← sum_affine_words (by norm_num) x r (k (ix1 r)) (w (ix1 c)) (b (ix1 c)) hx (hw _) (hk _).1 (hk _).2]
  pointwise [refW]
  rfl

/-- An entry of the reference's embedding of the biases. -/
theorem refB_apply (x : FVec Ideal S16x2048 .f32) (k : IVec S16 32) (w b : FVec Ideal S32 .f32) (hx : ∀ i, x i ≠ ⊤ ∧ x i ≠ ⊥)
    (hw : ∀ i, w i ≠ ⊤ ∧ w i ≠ ⊥) (hk : ∀ i, 0 ≤ (k i).toInt ∧ (k i).toInt ≤ 2048) (r : Fin 16) (c : Fin 32) :
    refB x k w b (ix2 r c) = Ideal.logistic (maskedSum (rowVals x r) (k (ix1 r)).toInt 2048 * w (ix1 c) + (((k (ix1 r)).toInt : ℝ) : EReal) * b (ix1 c)) := by
  rw [← sum_affine_words (by norm_num) x r (k (ix1 r)) (w (ix1 c)) (b (ix1 c)) hx (hw _) (hk _).1 (hk _).2]
  pointwise [refB]
  rfl

end Cert.Proof

end
-- ==== Proof.Inputs.lean ====
/-
  What the precondition says of the arguments: the weights, the biases and the two lists of factors are finite, and each
  row's length lies between zero and the row's extent.
-/
module

public import proofs.«01_k».proof.Defs
public import proofs.«01_k».proof.Proof.Gen.Pre_finite_and_in_range
public import Idealize.ShloMosaic.Lib.ReduceAll
public import Idealize.ShloMosaic.Lib.Affine

@[expose] public section

noncomputable section

namespace Cert.Proof

open Idealize.ShloMosaic

/-- An extended real whose absolute value compares below infinity is neither infinity. -/
theorem finite_of_abs_lt (x : Ideal .f32)
    (h : FloatOps.cmpf .olt (FloatOps.hostAbsf x) (FloatOps.ofBits (F := Ideal) .f32 0x7F800000#32) = 1#1) : (x : EReal) ≠ ⊤ ∧ (x : EReal) ≠ ⊥ := by
  have htop : Ideal.ofBits .f32 0x7F800000#32 = ⊤ := by simp [Ideal.ofBits, Ideal.ieee]
  have h' : BitVec.ofBool (decide (max (x : EReal) (-x) < Ideal.ofBits .f32 0x7F800000#32)) = 1#1 := h
  rw [htop] at h'
  have h3 : max (x : EReal) (-x) < ⊤ := by
    by_contra hn
    rw [decide_eq_false hn] at h'
    exact absurd h' (by decide)
  refine ⟨fun e => ?_, fun e => ?_⟩ <;> · rw [e] at h3; simp at h3

open Cert.Pre_finite_and_in_range

instance : Subsingleton S_.Idx := inferInstanceAs (Subsingleton ((d : Fin 0) → _))

/-- A word between two others, as the precondition compares it. -/
theorem range_of_cmp (v a b : BitVec 32) (h : IntOp.andi (IntOp.cmpi .sge v a) (IntOp.cmpi .sle v b) = 1#1) : a.toInt ≤ v.toInt ∧ v.toInt ≤ b.toInt :=
  let e := IntOp.andi_eq_one.1 h
  ⟨IntOp.cmpi_sge.1 e.1, IntOp.cmpi_sle.1 e.2⟩

/-- The precondition, read off its one bit. -/
theorem inputs (x : FVec Ideal S16x4096 .f32) (y : FVec Ideal S16x2048 .f32) (k l : IVec S16 32) (ww bw : FVec Ideal S1024 .f32)
    (wb bb : FVec Ideal S32 .f32) (we : FVec Ideal S1056x1024 .f32) (be : FVec Ideal S1024 .f32)
    (h : fn (F := Ideal) x y k l ww bw wb bb we be = fun _ => 1#1) :
    (∀ i, x i ≠ ⊤ ∧ x i ≠ ⊥) ∧ (∀ i, y i ≠ ⊤ ∧ y i ≠ ⊥) ∧ (∀ i, ww i ≠ ⊤ ∧ ww i ≠ ⊥) ∧ (∀ i, wb i ≠ ⊤ ∧ wb i ≠ ⊥)
      ∧ (∀ i, 0 ≤ (k i).toInt ∧ (k i).toInt ≤ 4096) ∧ ∀ i, 0 ≤ (l i).toInt ∧ (l i).toInt ≤ 2048 := by
  have e := congrFun h (Shape.Idx.first Facts.h_S_)
  simp only [fn, fn_part1, andi] at e
  obtain ⟨e, el⟩ := IntOp.andi_eq_one.1 e
  obtain ⟨e, ek⟩ := IntOp.andi_eq_one.1 e
  obtain ⟨e, ewb⟩ := IntOp.andi_eq_one.1 e
  obtain ⟨e, eww⟩ := IntOp.andi_eq_one.1 e
  obtain ⟨ex, ey⟩ := IntOp.andi_eq_one.1 e
  exact ⟨fun i => finite_of_abs_lt _ (Host.reduce_andi_all _ _ _ _ _ ex i), fun i => finite_of_abs_lt _ (Host.reduce_andi_all _ _ _ _ _ ey i),
    fun i => finite_of_abs_lt _ (Host.reduce_andi_all _ _ _ _ _ eww i), fun i => finite_of_abs_lt _ (Host.reduce_andi_all _ _ _ _ _ ewb i),
    fun i => range_of_cmp _ _ _ (Host.reduce_andi_all _ _ _ _ _ ek i), fun i => range_of_cmp _ _ _ (Host.reduce_andi_all _ _ _ _ _ el i)⟩

end Cert.Proof

end
-- ==== Proof.Algebraic.lean ====
/-
  Over the extended reals the kernel's result is the reference's.

  Both make the two embeddings, set them side by side, multiply by the same matrix, add the same row and take the maximum
  with zero; so the results agree where the embeddings do.  Entry by entry an embedding is the logistic of `S · w + k · b` on
  both sides.
-/
module

public import proofs.«01_k».proof.Defs
public import proofs.«01_k».proof.Proof.Frames
public import proofs.«01_k».proof.Proof.RowSum
public import proofs.«01_k».proof.Proof.Embed
public import proofs.«01_k».proof.Proof.RefValue
public import proofs.«01_k».proof.Proof.Inputs
public import Idealize.ShloMosaic.Lib.KernelVsHost

@[expose] public section

noncomputable section

namespace Cert.Proof

open Idealize.ShloMosaic Idealize.SL.Sem

/-- The last layer is the same in both: from equal embeddings equal results. -/
theorem layer_eq (A : FVec Ideal Cert.KernelIdeal.S16x1024 .f32) (B : FVec Ideal Cert.KernelIdeal.S16x32 .f32)
    (we : FVec Ideal Cert.KernelIdeal.S1056x1024 .f32) (be : FVec Ideal Cert.KernelIdeal.S1024 .f32)
    (x : FVec Ideal Cert.ReferenceIdeal.S16x4096 .f32) (y : FVec Ideal Cert.ReferenceIdeal.S16x2048 .f32) (k l : IVec Cert.ReferenceIdeal.S16 32)
    (ww bw : FVec Ideal Cert.ReferenceIdeal.S1024 .f32) (wb bb : FVec Ideal Cert.ReferenceIdeal.S32 .f32)
    (hA : A = refW x k ww bw) (hB : B = refB y l wb bb) :
    Cert.KernelIdeal.Gen.k1_pay1 A B we be = refOut x y k l ww bw wb bb we be := by
  subst hA hB
  refine congrArg₂ maximumf (congrArg₂ addf (matmul_zero_eq_dotGeneral _ _ _ _) ?_) rfl
  funext j
  rw [eq_ix2 j]
  pointwise

namespace Sc

open Cert.KernelIdeal Cert.KernelIdeal.Gen

variable (m : (ℓ : Loc nD τ sig) → Buf (Elt Ideal) ℓ)

/-- The TensorCore kernel starts from the partial sums, -/
theorem VK_sums (d : Dev nD) : VK m d main_v2 = partials m d := by
  rw [← V3_sums m d]
  exact V5_ne m d (by decide) (by decide)

/-- from the lengths of the weights' rows as a column -/
theorem lens3 (d : Dev nD) (r : Fin 16) : (VK m d main_v3 : Vec Ideal S16x1 .i32) (ix2 r 0) = (m (d, at_ main_arg2) : IVec S16 32) (ix1 r) := by
  refine (congrFun (result_ne op4 (b := main_v3) (o := main_v4) rfl (by decide) _) (ix2 r 0)).trans ?_
  refine (congrFun (StableHlo.reshape_result main_arg2 main_v3 _ _ _ _ _) (ix2 r 0)).trans ?_
  have e : V3 m d (at_ main_arg2) = m (d, at_ main_arg2) := by
    rw [V3_ne m d (at_ne (by decide : main_arg2 ≠ main_v2)), V2_ne m d (by decide) (by decide)]
  rw [e]
  pointwise

/-- and from the lengths of the biases' rows as a column. -/
theorem lens4 (d : Dev nD) (r : Fin 16) : (VK m d main_v4 : Vec Ideal S16x1 .i32) (ix2 r 0) = (m (d, at_ main_arg3) : IVec S16 32) (ix1 r) := by
  refine (congrFun (StableHlo.reshape_result main_arg3 main_v4 _ _ _ _ _) (ix2 r 0)).trans ?_
  have e : (op3 (F := Ideal)).result (V3 m d) (at_ main_arg3) = m (d, at_ main_arg3) := by
    rw [result_ne op3 (o := main_v3) rfl (by decide), V3_ne m d (at_ne (by decide : main_arg3 ≠ main_v2)), V2_ne m d (by decide) (by decide)]
  rw [e]
  pointwise

/-- Under the precondition the kernel's result is the reference's result of the same arguments. -/
theorem result_eq (hp : Cert.Pre_KernelIdeal_finite_and_in_range m) (d : Dev nD) :
    encAt (VK m) d = refOut (m (d, at_ main_arg0)) (m (d, at_ main_arg1)) (m (d, at_ main_arg2)) (m (d, at_ main_arg3)) (m (d, at_ main_arg4))
      (m (d, at_ main_arg5)) (m (d, at_ main_arg6)) (m (d, at_ main_arg7)) (m (d, at_ main_arg8)) (m (d, at_ main_arg9)) := by
  obtain ⟨hx, hy, hww, hwb, hk, hl⟩ := inputs _ _ _ _ _ _ _ _ _ _ (hp d)
  have arg (b : Ref sig .tc) (hb : b ∈ args) : VK m d b = m (d, at_ b) := V5_arg m d hb
  unfold encAt encode
  rw [VK_sums, arg main_arg1 (by decide), arg main_arg4 (by decide), arg main_arg5 (by decide), arg main_arg6 (by decide), arg main_arg7 (by decide),
    arg main_arg8 (by decide), arg main_arg9 (by decide)]
  refine layer_eq _ _ _ _ _ _ _ _ _ _ _ _ ?_ ?_
  · funext j
    obtain ⟨r, c, rfl⟩ : ∃ (r : Fin 16) (c : Fin 1024), j = ix2 r c := ⟨j 0, j 1, eq_ix2 j⟩
    refine (embedW_apply _ _ _ _ r c).trans ?_
    rw [partials_sum, lens3]
    exact (refW_apply _ _ _ _ hx hww hk r c).symm
  · funext j
    obtain ⟨r, c, rfl⟩ : ∃ (r : Fin 16) (c : Fin 32), j = ix2 r c := ⟨j 0, j 1, eq_ix2 j⟩
    refine (embedB_apply _ _ _ _ r c).trans ?_
    rw [lens4]
    exact (refB_apply _ _ _ _ hy hwb hl r c).symm

end Sc

/-- From equal arguments the kernel and the reference end with equal results. -/
theorem algebraic : Cert.algebraic_KernelIdeal_ReferenceIdeal_pre_finite_and_in_range := by
  intro m g m' g' hp hm
  refine ⟨fun c => Sc.encAt (Sc.VK m) c,
    (θ_run Cert.KernelIdeal.defs _ _).mono (fun _ h c => ⟨(h.1 c).1, args_kept h c⟩) (Sc.run_main (F := Ideal) m g),
    (θ_run Cert.ReferenceIdeal.defs _ _).mono (fun _ h c => ⟨(h c).1.trans ?_, (h c).2⟩) (Cert.ReferenceIdeal.Value.run (F := Ideal) m' g')⟩
  obtain ⟨h0, h1, h2, h3, h4, h5, h6, h7, h8, h9⟩ := hm c
  rw [h0, h1, h2, h3, h4, h5, h6, h7, h8, h9]
  exact (Sc.result_eq m hp c).symm

end Cert.Proof

end
-- ==== Proof.lean ====
/-
  The certificate's claim, put together: the frames of the kernel and of the reference, and the equality of their values.
-/
module

public import proofs.«01_k».proof.Defs
public import proofs.«01_k».proof.Proof.Frames
public import proofs.«01_k».proof.Proof.Reference
public import proofs.«01_k».proof.Proof.Algebraic
public import proofs.«01_k».proof.Proof.Gen.ReferenceIdeal.Run

@[expose] public section

noncomputable section

namespace Cert.Proof

theorem claim : Cert.Claim := ⟨Cert.Kernel.Gen.facts, Cert.KernelIdeal.Gen.facts, Cert.ReferenceIdeal.Gen.facts, Cert.Pre_finite_and_in_range.Gen.facts,
  frame_kernel, frame_kernelIdeal, frame_kernelIdeal_pre, frame_reference, frame_reference_pre, trivial, algebraic⟩

end Cert.Proof

end
